-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S512x1024 : Shape := ⟨2, ![512, 1024]⟩
abbrev S512x128 : Shape := ⟨2, ![512, 128]⟩
abbrev S5 : Shape := ⟨1, ![5]⟩
abbrev S3x16x16x512 : Shape := ⟨4, ![3, 16, 16, 512]⟩
abbrev S3x16 : Shape := ⟨2, ![3, 16]⟩
abbrev S1 : Shape := ⟨1, ![1]⟩
abbrev S_ : Shape := ⟨0, ![]⟩
abbrev S256x512 : Shape := ⟨2, ![256, 512]⟩
abbrev S256x128 : Shape := ⟨2, ![256, 128]⟩
abbrev S128x64 : Shape := ⟨2, ![128, 64]⟩
abbrev S512x64 : Shape := ⟨2, ![512, 64]⟩
abbrev S64x128 : Shape := ⟨2, ![64, 128]⟩
abbrev S512 : Shape := ⟨1, ![512]⟩
abbrev S512x1 : Shape := ⟨2, ![512, 1]⟩
abbrev S128x512 : Shape := ⟨2, ![128, 512]⟩
abbrev S16x512 : Shape := ⟨2, ![16, 512]⟩
abbrev S1x1x16x512 : Shape := ⟨4, ![1, 1, 16, 512]⟩
abbrev S1x1 : Shape := ⟨2, ![1, 1]⟩
abbrev S1x16x512 : Shape := ⟨3, ![1, 16, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x1024, .f32⟩
  | .hbm, ⟨3, _⟩ => ⟨S512x1024, .f32⟩
  | .hbm, ⟨4, _⟩ => ⟨S512x512, .f32⟩
  | .hbm, ⟨5, _⟩ => ⟨S2x128x512, .bf16⟩
  | .local _ .vmem, ⟨0, _⟩ => ⟨S2x128x512, .bf16⟩
  | .local _ .vmem, ⟨1, _⟩ => ⟨S2x128x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S3x16x16x512, .bf16⟩
  | .local _ .vmem, ⟨7, _⟩ => ⟨S3x16x16x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch6 : Ref sig .tc := ⟨.vmem, 6, rfl⟩
abbrev cc0_scratch7 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v3 : BitVec 32 := Scalar.muli v2 c128_i32
  ![0, v3.toNat]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_7 : BitVec 32 := 1#32
  let v20 : BitVec 32 := Scalar.muli v16 c1_i32_7
  let v21 : BitVec 32 := Scalar.addi c0_i32_8 v20
  v21.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_10 : BitVec 32 := 1#32
  let v22 : BitVec 32 := Scalar.muli v17 c1_i32_10
  let v23 : BitVec 32 := Scalar.addi c0_i32_11 v22
  v23.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_13 : BitVec 32 := 1#32
  let v24 : BitVec 32 := Scalar.muli v18 c1_i32_13
  let v25 : BitVec 32 := Scalar.addi c0_i32_14 v24
  v25.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_58 : BitVec 32 := 1#32
  let v116 : BitVec 32 := Scalar.muli v16 c1_i32_58
  let v117 : BitVec 32 := Scalar.addi c0_i32_59 v116
  v117.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_75 : BitVec 32 := 1#32
  let v131 : BitVec 32 := Scalar.muli v17 c1_i32_75
  let v132 : BitVec 32 := Scalar.addi c0_i32_76 v131
  v132.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_92 : BitVec 32 := 1#32
  let v146 : BitVec 32 := Scalar.muli v18 c1_i32_92
  let v147 : BitVec 32 := Scalar.addi c0_i32_93 v146
  v147.toNat
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_109 : BitVec 32 := 1#32
  let v161 : BitVec 32 := Scalar.muli v16 c1_i32_109
  let v162 : BitVec 32 := Scalar.addi c0_i32_110 v161
  v162.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_126 : BitVec 32 := 1#32
  let v176 : BitVec 32 := Scalar.muli v17 c1_i32_126
  let v177 : BitVec 32 := Scalar.addi c0_i32_127 v176
  v177.toNat
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_142 : BitVec 32 := 1#32
  let v191 : BitVec 32 := Scalar.muli v18 c1_i32_142
  let v192 : BitVec 32 := Scalar.addi c0_i32_143 v191
  v192.toNat
def k0_dev10 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_158 : BitVec 32 := 1#32
  let v206 : BitVec 32 := Scalar.muli v16 c1_i32_158
  let v207 : BitVec 32 := Scalar.addi c0_i32_159 v206
  v207.toNat
def k0_dev11 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_174 : BitVec 32 := 1#32
  let v221 : BitVec 32 := Scalar.muli v17 c1_i32_174
  let v222 : BitVec 32 := Scalar.addi c0_i32_175 v221
  v222.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_204 : BitVec 32 := 1#32
  let v294 : BitVec 32 := Scalar.muli v18 c1_i32_204
  let v295 : BitVec 32 := Scalar.addi c0_i32_205 v294
  v295.toNat
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_220 : BitVec 32 := 1#32
  let v309 : BitVec 32 := Scalar.muli v16 c1_i32_220
  let v310 : BitVec 32 := Scalar.addi c0_i32_221 v309
  v310.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_236 : BitVec 32 := 1#32
  let v324 : BitVec 32 := Scalar.muli v17 c1_i32_236
  let v325 : BitVec 32 := Scalar.addi c0_i32_237 v324
  v325.toNat
def k0_dev15 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_252 : BitVec 32 := 1#32
  let v339 : BitVec 32 := Scalar.muli v18 c1_i32_252
  let v340 : BitVec 32 := Scalar.addi c0_i32_253 v339
  v340.toNat
def k0_dev16 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_268 : BitVec 32 := 1#32
  let v354 : BitVec 32 := Scalar.muli v16 c1_i32_268
  let v355 : BitVec 32 := Scalar.addi c0_i32_269 v354
  v355.toNat
def k0_dev17 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_284 : BitVec 32 := 1#32
  let v369 : BitVec 32 := Scalar.muli v17 c1_i32_284
  let v370 : BitVec 32 := Scalar.addi c0_i32_285 v369
  v370.toNat
def k0_dev18 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_300 : BitVec 32 := 1#32
  let v384 : BitVec 32 := Scalar.muli v18 c1_i32_300
  let v385 : BitVec 32 := Scalar.addi c0_i32_301 v384
  v385.toNat
def k0_dev19 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_316 : BitVec 32 := 1#32
  let v399 : BitVec 32 := Scalar.muli v16 c1_i32_316
  let v400 : BitVec 32 := Scalar.addi c0_i32_317 v399
  v400.toNat
def k0_dev20 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_365 : BitVec 32 := 1#32
  let v431 : BitVec 32 := Scalar.muli v17 c1_i32_365
  let v432 : BitVec 32 := Scalar.addi c0_i32_366 v431
  v432.toNat
def k0_dev21 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_414 : BitVec 32 := 1#32
  let v463 : BitVec 32 := Scalar.muli v18 c1_i32_414
  let v464 : BitVec 32 := Scalar.addi c0_i32_415 v463
  v464.toNat
def k0_dev22 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_463 : BitVec 32 := 1#32
  let v495 : BitVec 32 := Scalar.muli v16 c1_i32_463
  let v496 : BitVec 32 := Scalar.addi c0_i32_464 v495
  v496.toNat
def k0_dev23 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_512 : BitVec 32 := 1#32
  let v527 : BitVec 32 := Scalar.muli v17 c1_i32_512
  let v528 : BitVec 32 := Scalar.addi c0_i32_513 v527
  v528.toNat
def k0_dev24 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_561 : BitVec 32 := 1#32
  let v559 : BitVec 32 := Scalar.muli v18 c1_i32_561
  let v560 : BitVec 32 := Scalar.addi c0_i32_562 v559
  v560.toNat
def k0_dev25 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_610 : BitVec 32 := 1#32
  let v591 : BitVec 32 := Scalar.muli v16 c1_i32_610
  let v592 : BitVec 32 := Scalar.addi c0_i32_611 v591
  v592.toNat
def k0_dev26 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_659 : BitVec 32 := 1#32
  let v623 : BitVec 32 := Scalar.muli v17 c1_i32_659
  let v624 : BitVec 32 := Scalar.addi c0_i32_660 v623
  v624.toNat
def k0_dev27 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_708 : BitVec 32 := 1#32
  let v655 : BitVec 32 := Scalar.muli v18 c1_i32_708
  let v656 : BitVec 32 := Scalar.addi c0_i32_709 v655
  v656.toNat
def k0_dev28 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_757 : BitVec 32 := 1#32
  let v687 : BitVec 32 := Scalar.muli v16 c1_i32_757
  let v688 : BitVec 32 := Scalar.addi c0_i32_758 v687
  v688.toNat
def k0_dev29 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_806 : BitVec 32 := 1#32
  let v719 : BitVec 32 := Scalar.muli v17 c1_i32_806
  let v720 : BitVec 32 := Scalar.addi c0_i32_807 v719
  v720.toNat
def k0_dev30 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_855 : BitVec 32 := 1#32
  let v751 : BitVec 32 := Scalar.muli v18 c1_i32_855
  let v752 : BitVec 32 := Scalar.addi c0_i32_856 v751
  v752.toNat
def k0_dev31 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_904 : BitVec 32 := 1#32
  let v783 : BitVec 32 := Scalar.muli v16 c1_i32_904
  let v784 : BitVec 32 := Scalar.addi c0_i32_905 v783
  v784.toNat
def k0_dev32 (d0 : Dev nD) : Nat :=
  let c0_i32_954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_953 : BitVec 32 := 1#32
  let v815 : BitVec 32 := Scalar.muli v17 c1_i32_953
  let v816 : BitVec 32 := Scalar.addi c0_i32_954 v815
  v816.toNat
def k0_dev33 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1002 : BitVec 32 := 1#32
  let v847 : BitVec 32 := Scalar.muli v18 c1_i32_1002
  let v848 : BitVec 32 := Scalar.addi c0_i32_1003 v847
  v848.toNat
def k0_dev34 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_1051 : BitVec 32 := 1#32
  let v879 : BitVec 32 := Scalar.muli v16 c1_i32_1051
  let v880 : BitVec 32 := Scalar.addi c0_i32_1052 v879
  v880.toNat
def k0_dev35 (d0 : Dev nD) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_1100 : BitVec 32 := 1#32
  let v911 : BitVec 32 := Scalar.muli v17 c1_i32_1100
  let v912 : BitVec 32 := Scalar.addi c0_i32_1101 v911
  v912.toNat
def k0_dev36 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1149 : BitVec 32 := 1#32
  let v943 : BitVec 32 := Scalar.muli v18 c1_i32_1149
  let v944 : BitVec 32 := Scalar.addi c0_i32_1150 v943
  v944.toNat
def k0_dev37 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_1198 : BitVec 32 := 1#32
  let v975 : BitVec 32 := Scalar.muli v16 c1_i32_1198
  let v976 : BitVec 32 := Scalar.addi c0_i32_1199 v975
  v976.toNat
def k0_dev38 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_1247 : BitVec 32 := 1#32
  let v1007 : BitVec 32 := Scalar.muli v17 c1_i32_1247
  let v1008 : BitVec 32 := Scalar.addi c0_i32_1248 v1007
  v1008.toNat
def k0_dev39 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1296 : BitVec 32 := 1#32
  let v1039 : BitVec 32 := Scalar.muli v18 c1_i32_1296
  let v1040 : BitVec 32 := Scalar.addi c0_i32_1297 v1039
  v1040.toNat
def k0_dev40 (d0 : Dev nD) : Nat :=
  let c0_i32_1346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_1345 : BitVec 32 := 1#32
  let v1071 : BitVec 32 := Scalar.muli v16 c1_i32_1345
  let v1072 : BitVec 32 := Scalar.addi c0_i32_1346 v1071
  v1072.toNat
def k0_dev41 (d0 : Dev nD) : Nat :=
  let c0_i32_1395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_1394 : BitVec 32 := 1#32
  let v1103 : BitVec 32 := Scalar.muli v17 c1_i32_1394
  let v1104 : BitVec 32 := Scalar.addi c0_i32_1395 v1103
  v1104.toNat
def k0_dev42 (d0 : Dev nD) : Nat :=
  let c0_i32_1444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1443 : BitVec 32 := 1#32
  let v1135 : BitVec 32 := Scalar.muli v18 c1_i32_1443
  let v1136 : BitVec 32 := Scalar.addi c0_i32_1444 v1135
  v1136.toNat
def k0_dev43 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_1492 : BitVec 32 := 1#32
  let v1167 : BitVec 32 := Scalar.muli v16 c1_i32_1492
  let v1168 : BitVec 32 := Scalar.addi c0_i32_1493 v1167
  v1168.toNat
def k0_dev44 (d0 : Dev nD) : Nat :=
  let c0_i32_1542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_1541 : BitVec 32 := 1#32
  let v1199 : BitVec 32 := Scalar.muli v17 c1_i32_1541
  let v1200 : BitVec 32 := Scalar.addi c0_i32_1542 v1199
  v1200.toNat
def k0_dev45 (d0 : Dev nD) : Nat :=
  let c0_i32_1591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1590 : BitVec 32 := 1#32
  let v1231 : BitVec 32 := Scalar.muli v18 c1_i32_1590
  let v1232 : BitVec 32 := Scalar.addi c0_i32_1591 v1231
  v1232.toNat
def k0_dev46 (d0 : Dev nD) : Nat :=
  let c0_i32_1640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_1639 : BitVec 32 := 1#32
  let v1263 : BitVec 32 := Scalar.muli v16 c1_i32_1639
  let v1264 : BitVec 32 := Scalar.addi c0_i32_1640 v1263
  v1264.toNat
def k0_dev47 (d0 : Dev nD) : Nat :=
  let c0_i32_1689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_1688 : BitVec 32 := 1#32
  let v1295 : BitVec 32 := Scalar.muli v17 c1_i32_1688
  let v1296 : BitVec 32 := Scalar.addi c0_i32_1689 v1295
  v1296.toNat
def k0_dev48 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1737 : BitVec 32 := 1#32
  let v1327 : BitVec 32 := Scalar.muli v18 c1_i32_1737
  let v1328 : BitVec 32 := Scalar.addi c0_i32_1738 v1327
  v1328.toNat
def k0_dev49 (d0 : Dev nD) : Nat :=
  let c0_i32_1787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v16 : BitVec 32 := Scalar.xori v2 c1_i32_3
  let c1_i32_1786 : BitVec 32 := 1#32
  let v1359 : BitVec 32 := Scalar.muli v16 c1_i32_1786
  let v1360 : BitVec 32 := Scalar.addi c0_i32_1787 v1359
  v1360.toNat
def k0_dev50 (d0 : Dev nD) : Nat :=
  let c0_i32_1836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4 : BitVec 32 := 3#32
  let v17 : BitVec 32 := Scalar.xori v2 c3_i32_4
  let c1_i32_1835 : BitVec 32 := 1#32
  let v1391 : BitVec 32 := Scalar.muli v17 c1_i32_1835
  let v1392 : BitVec 32 := Scalar.addi c0_i32_1836 v1391
  v1392.toNat
def k0_dev51 (d0 : Dev nD) : Nat :=
  let c0_i32_1885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v18 : BitVec 32 := Scalar.xori v2 c4_i32_5
  let c1_i32_1884 : BitVec 32 := 1#32
  let v1423 : BitVec 32 := Scalar.muli v18 c1_i32_1884
  let v1424 : BitVec 32 := Scalar.addi c0_i32_1885 v1423
  v1424.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S512x1024 : Shape := ⟨2, ![512, 1024]⟩
abbrev S4096x512 : Shape := ⟨2, ![4096, 512]⟩
abbrev S2x128x4096 : Shape := ⟨3, ![2, 128, 4096]⟩
abbrev S2x128x64x64 : Shape := ⟨4, ![2, 128, 64, 64]⟩
abbrev S2x128x1024 : Shape := ⟨3, ![2, 128, 1024]⟩
abbrev S2x128x16x64 : Shape := ⟨4, ![2, 128, 16, 64]⟩
abbrev S2x128x16x4x64 : Shape := ⟨5, ![2, 128, 16, 4, 64]⟩
abbrev S_ : Shape := ⟨0, ![]⟩
abbrev S2x64x128x1 : Shape := ⟨4, ![2, 64, 128, 1]⟩
abbrev S2x64x128x128 : Shape := ⟨4, ![2, 64, 128, 128]⟩
abbrev S2x64x128 : Shape := ⟨3, ![2, 64, 128]⟩
abbrev S2x128x64x1 : Shape := ⟨4, ![2, 128, 64, 1]⟩
abbrev S2x64x64x128 : Shape := ⟨4, ![2, 64, 64, 128]⟩

abbrev nBuf : Space → Nat
  | .hbm => 51
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S512x1024, .f32⟩
  | .hbm, ⟨3, _⟩ => ⟨S512x1024, .f32⟩
  | .hbm, ⟨4, _⟩ => ⟨S4096x512, .f32⟩
  | .hbm, ⟨5, _⟩ => ⟨S2x128x4096, .f32⟩
  | .hbm, ⟨6, _⟩ => ⟨S2x128x64x64, .f32⟩
  | .hbm, ⟨7, _⟩ => ⟨S2x128x1024, .f32⟩
  | .hbm, ⟨8, _⟩ => ⟨S2x128x16x64, .f32⟩
  | .hbm, ⟨9, _⟩ => ⟨S2x128x1024, .f32⟩
  | .hbm, ⟨10, _⟩ => ⟨S2x128x16x64, .f32⟩
  | .hbm, ⟨11, _⟩ => ⟨S2x128x16x4x64, .f32⟩
  | .hbm, ⟨12, _⟩ => ⟨S2x128x64x64, .f32⟩
  | .hbm, ⟨13, _⟩ => ⟨S2x128x16x4x64, .f32⟩
  | .hbm, ⟨14, _⟩ => ⟨S2x128x64x64, .f32⟩
  | .hbm, ⟨15, _⟩ => ⟨S_, .f32⟩
  | .hbm, ⟨16, _⟩ => ⟨S2x128x64x64, .f32⟩
  | .hbm, ⟨17, _⟩ => ⟨S_, .f32⟩
  | .hbm, ⟨18, _⟩ => ⟨S2x64x128x1, .f32⟩
  | .hbm, ⟨19, _⟩ => ⟨S_, .f32⟩
  | .hbm, ⟨20, _⟩ => ⟨S2x64x128x1, .f32⟩
  | .hbm, ⟨21, _⟩ => ⟨S2x64x128x128, .f32⟩
  | .hbm, ⟨22, _⟩ => ⟨S_, .f32⟩
  | .hbm, ⟨23, _⟩ => ⟨S2x64x128x128, .f32⟩
  | .hbm, ⟨24, _⟩ => ⟨S2x64x128x128, .f32⟩
  | .hbm, ⟨25, _⟩ => ⟨S_, .f32⟩
  | .hbm, ⟨26, _⟩ => ⟨S2x64x128, .f32⟩
  | .hbm, ⟨27, _⟩ => ⟨S2x64x128x1, .f32⟩
  | .hbm, ⟨28, _⟩ => ⟨S2x64x128x1, .f32⟩
  | .hbm, ⟨29, _⟩ => ⟨S2x64x128x1, .f32⟩
  | .hbm, ⟨30, _⟩ => ⟨S2x64x128x1, .f32⟩
  | .hbm, ⟨31, _⟩ => ⟨S2x64x128x128, .f32⟩
  | .hbm, ⟨32, _⟩ => ⟨S2x64x128x128, .f32⟩
  | .hbm, ⟨33, _⟩ => ⟨S2x64x128x128, .f32⟩
  | .hbm, ⟨34, _⟩ => ⟨S2x64x128x1, .f32⟩
  | .hbm, ⟨35, _⟩ => ⟨S_, .f32⟩
  | .hbm, ⟨36, _⟩ => ⟨S2x64x128, .f32⟩
  | .hbm, ⟨37, _⟩ => ⟨S2x64x128x1, .f32⟩
  | .hbm, ⟨38, _⟩ => ⟨S2x64x128x1, .f32⟩
  | .hbm, ⟨39, _⟩ => ⟨S2x128x64x1, .f32⟩
  | .hbm, ⟨40, _⟩ => ⟨S2x128x64x64, .f32⟩
  | .hbm, ⟨41, _⟩ => ⟨S2x128x64x64, .f32⟩
  | .hbm, ⟨42, _⟩ => ⟨S2x64x64x128, .f32⟩
  | .hbm, ⟨43, _⟩ => ⟨S2x128x64x64, .f32⟩
  | .hbm, ⟨44, _⟩ => ⟨S2x128x64x64, .f32⟩
  | .hbm, ⟨45, _⟩ => ⟨S2x128x64x1, .f32⟩
  | .hbm, ⟨46, _⟩ => ⟨S2x128x64x64, .f32⟩
  | .hbm, ⟨47, _⟩ => ⟨S2x128x64x64, .f32⟩
  | .hbm, ⟨48, _⟩ => ⟨S2x128x4096, .f32⟩
  | .hbm, ⟨49, _⟩ => ⟨S2x128x512, .f32⟩
  | .hbm, ⟨50, _⟩ => ⟨S2x128x512, .bf16⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

/-!
# The kernel as a loop

The printed kernel is straight-line: 48 remote copies, each written out with its own literal offsets.
This module says the same program once per kind of step — a send of slot `q`, a wait for slot `q` — and
runs the steps in loops over `q`; `body_eq` is that the printed program is this one.
-/

@[expose] public section

noncomputable section

namespace Cert.KernelIdeal.Fly

open Idealize.ShloMosaic Idealize.ShloMosaic.TcCoe Idealize.SL.Sem
open Cert.KernelIdeal Cert.KernelIdeal.Gen

variable {F : FTy → Type} [FloatOps F]

/-! ## Slots, semaphores, partners -/

/-- The offset of slot `q` in a send or receive scratch: round `q / 16`, row chunk `q % 16`. -/
abbrev slotOff (q : Fin 48) : Fin 4 → Nat := ![q.val / 16, q.val % 16, 0, 0]

/-- A slot lies inside its scratch. -/
theorem slot_inb : ∀ (q : Fin 48) (a : Fin 4), slotOff q a + S1x1x16x512.size a ≤ S3x16x16x512.size a := by
  decide

/-- The slot's rectangle. -/
abbrev slotRect (q : Fin 48) : Rect S3x16x16x512 :=
  Rect.unit (s := S3x16x16x512) (slotOff q) S1x1x16x512.size (slot_inb q)

/-- A slot is a run of whole packed rows. -/
theorem slot_packed : ∀ q : Fin 48, (slotRect q).PackedRows (EltTy.packing .bf16) := by decide +kernel

/-- A slot is a run of whole words. -/
theorem slot_words : ∀ q : Fin 48, (slotRect q).WholeWords (EltTy.packing .bf16) := by decide +kernel

/-- The send slots. -/
abbrev sM : Memref sig .tc .vmem S3x16x16x512 .bf16 := Memref.whole cc0_scratch6

/-- The receive slots. -/
abbrev rM : Memref sig .tc .vmem S3x16x16x512 .bf16 := Memref.whole cc0_scratch7

/-- Slot `q` of the send scratch, as the copies address it. -/
abbrev sSlot (q : Fin 48) : Memref sig .tc .vmem S16x512 .bf16 :=
  (sM.slice (slotRect q) (fun _ => rfl)).squeeze S16x512 squeezes_S1x1x16x512_S16x512

/-- Slot `q` of the receive scratch, as the copies address it. -/
abbrev rSlot (q : Fin 48) : Memref sig .tc .vmem S16x512 .bf16 :=
  (rM.slice (slotRect q) (fun _ => rfl)).squeeze S16x512 squeezes_S1x1x16x512_S16x512

/-- A slot's send semaphore is one of the kernel's. -/
theorem send_lt (q : Fin 48) : 6 + q.val < sig.nDmaSem := lt_of_lt_of_eq (by omega : 6 + q.val < 102) rfl

/-- A slot's send semaphore. -/
def sendS (q : Fin 48) : DmaSem sig := ⟨6 + q.val, send_lt q⟩

/-- A slot's receive semaphore is one of the kernel's. -/
theorem recv_lt (q : Fin 48) : 54 + q.val < sig.nDmaSem := lt_of_lt_of_eq (by omega : 54 + q.val < 102) rfl

/-- A slot's receive semaphore. -/
def recvS (q : Fin 48) : DmaSem sig := ⟨54 + q.val, recv_lt q⟩

/-- Load semaphore `i`. -/
theorem load_lt (i : Fin 5) : 1 + i.val < sig.nDmaSem := lt_of_lt_of_eq (by omega : 1 + i.val < 102) rfl

/-- A load's semaphore. -/
def loadS (i : Fin 5) : DmaSem sig := ⟨1 + i.val, load_lt i⟩

/-- The barrier's semaphore. -/
abbrev barS : Sem sig := (SemArray.scalar (sig.barrier 0 rfl) : Sems sig S_).sem

/-- The partner of device `d` under mask `i` (1, 3, 4). -/
def pal (d : Dev nD) (i : Fin 3) : Dev nD :=
  match i with
  | 0 => ⟨k0_dev1 d, k0_dev1_lt d⟩
  | 1 => ⟨k0_dev2 d, k0_dev2_lt d⟩
  | 2 => ⟨k0_dev3 d, k0_dev3_lt d⟩

/-- The mask slot `q` is exchanged under. -/
abbrev maskOf (q : Fin 48) : Fin 3 := ⟨q.val % 3, Nat.mod_lt _ (by decide)⟩

/-- The partner slot `q` is exchanged with. -/
abbrev peer (d : Dev nD) (q : Fin 48) : Dev nD := pal d (maskOf q)

/-! ## Values -/

/-- Rows `16 j …` of a partial. -/
theorem rows_slices : ∀ j : Fin 8, S128x512.Slices ![16 * j.val, 0] S16x512 := by decide

/-- Sixteen rows of a partial. -/
def rowsOf (P : FVec F S128x512 .f32) (j : Fin 8) : FVec F S16x512 .f32 :=
  extractStridedSlice S16x512 ![16 * j.val, 0] P (rows_slices j)

/-- What a send stores: the chunk rounded to bf16, in the slot's shape. -/
def packS (a : FVec F S16x512 .f32) : FVec F S1x1x16x512 .bf16 :=
  shapeCast S1x1x16x512 (truncf .bf16 a bitsLt_bf16_f32) shapeCasts_S16x512_S1x1x16x512

/-- What a round adds: the chunk and the received one. -/
def addR (a : FVec F S16x512 .f32) (v : Vec F S1x1x16x512 .bf16) : FVec F S16x512 .f32 :=
  addf a (extf .f32 (shapeCast S16x512 v shapeCasts_S1x1x16x512_S16x512) bitsLt_bf16_f32)

/-- What the end stores: the chunk rounded to bf16, in the output window's shape. -/
def packO (a : FVec F S16x512 .f32) : FVec F S1x16x512 .bf16 :=
  shapeCast S1x16x512 (truncf .bf16 a bitsLt_bf16_f32) shapeCasts_S16x512_S1x16x512

/-- A query head's rows and columns lie in the projection. -/
theorem q_slices : ∀ (b g : Fin 2) (j : Fin 4),
    S256x512.Slices ![128 * b.val, 256 * g.val + 64 * j.val] S128x64 := by decide

/-- A key head's rows and columns lie in the projection. -/
theorem kv_slices : ∀ b g : Fin 2, S256x128.Slices ![128 * b.val, 64 * g.val] S128x64 := by decide

/-- A head's rows lie in the stack of four heads. -/
theorem h_slices : ∀ j : Fin 4, S512x64.Slices ![128 * j.val, 0] S128x64 := by decide

/-- The queries of four heads, stacked. -/
def qStack (q : FVec F S256x512 .bf16) (b g : Fin 2) : FVec F S512x64 .bf16 :=
  concatenate S512x64 0
    [⟨S128x64, extractStridedSlice S128x64 ![128 * b.val, 256 * g.val + 64 * (0 : Fin 4).val] q (q_slices b g 0)⟩,
     ⟨S128x64, extractStridedSlice S128x64 ![128 * b.val, 256 * g.val + 64 * (1 : Fin 4).val] q (q_slices b g 1)⟩,
     ⟨S128x64, extractStridedSlice S128x64 ![128 * b.val, 256 * g.val + 64 * (2 : Fin 4).val] q (q_slices b g 2)⟩,
     ⟨S128x64, extractStridedSlice S128x64 ![128 * b.val, 256 * g.val + 64 * (3 : Fin 4).val] q (q_slices b g 3)⟩]
    concatenates_S128x64_S128x64_S128x64_S128x64_S512x64_d0

/-- The scaled scores of four heads. -/
def scores (q : FVec F S256x512 .bf16) (k : FVec F S256x128 .bf16) (b g : Fin 2) : FVec F S512x128 .f32 :=
  mulf (matmul dot_S512x64_S64x128_S512x128_1_0_0_1_n_n none (qStack q b g)
    (transpose S64x128 [1, 0] (extractStridedSlice S128x64 ![128 * b.val, 64 * g.val] k (kv_slices b g)) transposes_S128x64_p1_0_S64x128)
    (constant S512x128 .f32 0x00000000#32)) (broadcast S512x128 (Scalar.ofBits .f32 0x3E000000#32))

/-- The scores less their row's greatest, exponentiated. -/
def expo (s : FVec F S512x128 .f32) : FVec F S512x128 .f32 :=
  exp (subf s (broadcastTo S512x128 (shapeCast S512x1
    (multiReduction .maximumf [1] S512 s 0xFF800000#32 reduces_S512x128_S512 (.inl rfl) rfl) shapeCasts_S512_S512x1)
    broadcasts_S512x1_S512x128))

/-- The attention of four heads: weighted values over the weights' sum. -/
def heads (p : FVec F S512x128 .f32) (v : FVec F S128x64 .bf16) : FVec F S512x64 .bf16 :=
  truncf .bf16 (divf
    (matmul dot_S512x128_S128x64_S512x64_1_0_0_1_n_n none (truncf .bf16 p bitsLt_bf16_f32) v (constant S512x64 .f32 0x00000000#32))
    (broadcastTo S512x64 (shapeCast S512x1
      (multiReduction .add [1] S512 p 0x00000000#32 reduces_S512x128_S512 (.inl rfl) rfl) shapeCasts_S512_S512x1)
      broadcasts_S512x1_S512x64)) bitsLt_bf16_f32

/-- The attention of four heads of batch `b`, half `g`. -/
def attn (q : FVec F S256x512 .bf16) (k v : FVec F S256x128 .bf16) (b g : Fin 2) : FVec F S512x64 .bf16 :=
  heads (expo (scores q k b g)) (extractStridedSlice S128x64 ![128 * b.val, 64 * g.val] v (kv_slices b g))

/-- Head `j` of four stacked ones. -/
def headOf (a : FVec F S512x64 .bf16) (j : Fin 4) : FVec F S128x64 .bf16 :=
  extractStridedSlice S128x64 ![128 * j.val, 0] a (h_slices j)

/-- Eight heads side by side. -/
def sideBy (a a' : FVec F S512x64 .bf16) : FVec F S128x512 .bf16 :=
  concatenate S128x512 1
    [⟨S128x64, headOf a 0⟩, ⟨S128x64, headOf a 1⟩, ⟨S128x64, headOf a 2⟩, ⟨S128x64, headOf a 3⟩,
     ⟨S128x64, headOf a' 0⟩, ⟨S128x64, headOf a' 1⟩, ⟨S128x64, headOf a' 2⟩, ⟨S128x64, headOf a' 3⟩]
    concatenates_S128x64_S128x64_S128x64_S128x64_S128x64_S128x64_S128x64_S128x64_S128x512_d1

/-- A device's partial of batch `b`: its eight heads' attention times its rows of the output weights. -/
def partialOf (x : Vec F S2x128x512 .f32) (wq : Vec F S512x512 .f32) (wk wv : Vec F S512x128 .f32)
    (wo : Vec F S512x512 .f32) (b : Fin 2) : FVec F S128x512 .f32 :=
  matmul dot_S128x512_S512x512_S128x512_1_0_0_1_n_n none
    (sideBy (attn (k0_pay3 x wq) (k0_pay4 x wk) (k0_pay5 x wv) b 0) (attn (k0_pay3 x wq) (k0_pay4 x wk) (k0_pay5 x wv) b 1))
    (truncf .bf16 wo bitsLt_bf16_f32) (constant S128x512 .f32 0x00000000#32)

/-! ## The program -/

/-- A program of the kernel. -/
abbrev KProg (F : FTy → Type) : Type 1 := Prog (TpuEff nD τ sig (Elt F) Λ₀ .tc) PUnit

/-- Storing `v` into slot `q` and copying the slot to its partner. -/
def sendQ (d : Dev nD) (q : Fin 48) (v : FVec F S1x1x16x512 .bf16) (k : KProg F) : KProg F :=
  .op (.load sM (slotRect q).toLoadRect (View.loadsAt_vmem h_S1x1x16x512)) fun _ =>
  .op (.store sM (slotRect q) v Finset.univ (View.stores_vmem h_S1x1x16x512
    ((Memref.isWhole_whole _).storeExact_slice rfl _ (slot_packed q)) (fun _ => rfl)) (.inl rfl)) fun _ =>
  .op (.enqueueDma (sSlot q) (.remote (Dev.tc (peer d q)) (rSlot q) (.dma (sendS q))) (.dma (recvS q))
    (((Memref.isWhole_whole _).wordExact_slice rfl _ (slot_words q)).reshape _ _)
    (((Memref.isWhole_whole _).wordExact_slice rfl _ (slot_words q)).reshape _ _) ⟨⟨rfl, Or.inl rfl⟩, trivial⟩) fun _ => k

/-- Waiting for slot `q`'s send and for its arrival, and reading what arrived. -/
def waitQ (q : Fin 48) (k : Vec F S1x1x16x512 .bf16 → KProg F) : KProg F :=
  .op (.waitDma2 (sendS q) (rSlot q) (sSlot q)
    (((Memref.isWhole_whole _).wordExact_slice rfl _ (slot_words q)).reshape _ _)
    (((Memref.isWhole_whole _).wordExact_slice rfl _ (slot_words q)).reshape _ _)) fun _ =>
  .op (.waitDma2 (recvS q) (sSlot q) (rSlot q)
    (((Memref.isWhole_whole _).wordExact_slice rfl _ (slot_words q)).reshape _ _)
    (((Memref.isWhole_whole _).wordExact_slice rfl _ (slot_words q)).reshape _ _)) fun _ =>
  .op (.load rM (slotRect q).toLoadRect (View.loadsAt_vmem h_S1x1x16x512)) k

/-- The output rows of chunk `k`: batch `k / 8`, rows `16 (k % 8) …`. -/
abbrev outOff (k : Fin 16) : Fin 3 → Nat := ![k.val / 8, 16 * (k.val % 8), 0]

/-- A chunk's rows lie in the output. -/
theorem out_inb : ∀ (k : Fin 16) (a : Fin 3), outOff k a + S1x16x512.size a ≤ S2x128x512.size a := by decide

/-- A chunk's rows in the output. -/
abbrev outRect (k : Fin 16) : Rect S2x128x512 :=
  Rect.unit (s := S2x128x512) (outOff k) S1x16x512.size (out_inb k)

/-- A chunk's rows fill whole words of the output. -/
theorem out_packed : ∀ k : Fin 16, (outRect k).PackedRows (EltTy.packing .bf16) := by decide +kernel

/-- Storing `v` into chunk `k` of the output. -/
def outQ (o : Memref sig .tc .vmem S2x128x512 .bf16) (ho : o.IsWhole) (k : Fin 16) (v : FVec F S1x16x512 .bf16)
    (c : KProg F) : KProg F :=
  .op (.load o (outRect k).toLoadRect (View.loadsAt_vmem h_S1x16x512)) fun _ =>
  .op (.store o (outRect k) v Finset.univ (View.stores_vmem h_S1x16x512
    (ho.storeExact_slice rfl _ (out_packed k)) (fun _ => rfl)) (.inl rfl)) fun _ => c

/-- The chunk a slot holds. -/
abbrev chunkOf (q : Fin 48) : Fin 16 := ⟨q.val % 16, Nat.mod_lt _ (by decide)⟩

/-- Sending `n` chunks of one batch from slot `q` on. -/
def firsts (d : Dev nD) (P : FVec F S128x512 .f32) (k : KProg F) : (n q : ℕ) → q + n ≤ 48 → KProg F
  | 0, _, _ => k
  | n + 1, q, h => sendQ d ⟨q, by omega⟩ (packS (rowsOf P ⟨q % 8, Nat.mod_lt _ (by decide)⟩))
      (firsts d P k n (q + 1) (by omega))

/-- The chunks after the step at `q`. -/
def bump (A : Fin 16 → FVec F S16x512 .f32) (k : Fin 16) (v : Vec F S1x1x16x512 .bf16) : Fin 16 → FVec F S16x512 .f32 :=
  fun j => if j.val = k.val then addR (A k) v else A j

/-- The middle: each of `n` steps from `q` on waits for the slot sixteen before, adds, and sends the sum on. -/
def rounds (d : Dev nD) (k : (Fin 16 → FVec F S16x512 .f32) → KProg F) : (n q : ℕ) → q + 16 + n ≤ 48 →
    (Fin 16 → FVec F S16x512 .f32) → KProg F
  | 0, _, _, A => k A
  | n + 1, q, h, A => waitQ ⟨q, by omega⟩ fun v =>
      sendQ d ⟨q + 16, by omega⟩ (packS (addR (A (chunkOf ⟨q, by omega⟩)) v))
        (rounds d k n (q + 1) (by omega) (bump A (chunkOf ⟨q, by omega⟩) v))

/-- The end: each of `n` steps waits for a slot, adds, and stores the sum into the output. -/
def lasts (o : Memref sig .tc .vmem S2x128x512 .bf16) (ho : o.IsWhole) (A : Fin 16 → FVec F S16x512 .f32) :
    (n q : ℕ) → q + n ≤ 48 → KProg F
  | 0, _, _ => .ret ⟨⟩
  | n + 1, q, h => waitQ ⟨q, by omega⟩ fun v =>
      outQ o ho (chunkOf ⟨q, by omega⟩) (packO (addR (A (chunkOf ⟨q, by omega⟩)) v)) (lasts o ho A n (q + 1) (by omega))

/-- The scratch of the tokens. -/
abbrev xM : Memref sig .tc .vmem S2x128x512 .f32 := Memref.whole cc0_scratch0

/-- The scratch of the query weights. -/
abbrev wqM : Memref sig .tc .vmem S512x512 .f32 := Memref.whole cc0_scratch1

/-- The scratch of the output weights. -/
abbrev woM : Memref sig .tc .vmem S512x512 .f32 := Memref.whole cc0_scratch2

/-- The scratch of the key weights. -/
abbrev wkM : Memref sig .tc .vmem S512x128 .f32 := Memref.whole cc0_scratch3

/-- The scratch of the value weights. -/
abbrev wvM : Memref sig .tc .vmem S512x128 .f32 := Memref.whole cc0_scratch4

/-- The columns of a device's key and value heads in a replicated weight. -/
abbrev kvCols (d : Dev nD) (m : Memref sig .tc .hbm S512x1024 .f32) : Memref sig .tc .hbm S512x128 .f32 :=
  m.slice (Rect.unit (s := S512x1024) (k0_off1 d) S512x128.size (k0_off1_inb d)) (fun _ => rfl)

/-- Starting load `i` of `src` into `dst`, and waiting for it. -/
def fetch {s : Shape} (i : Fin 5) (src : Memref sig .tc .hbm s .f32) (dst : Memref sig .tc .vmem s .f32)
    (hs : src.view.WordExact) (hd : dst.view.WordExact) (k : KProg F) : KProg F :=
  .op (.enqueueDma src (.here dst) (.dma (loadS i)) hs hd ⟨Or.inl rfl, trivial⟩) fun _ => k

/-- Waiting for load `i` of `src` into `dst`. -/
def await {s : Shape} (i : Fin 5) (src : Memref sig .tc .hbm s .f32) (dst : Memref sig .tc .vmem s .f32)
    (hs : src.view.WordExact) (hd : dst.view.WordExact) (k : KProg F) : KProg F :=
  .op (.waitDma2 (loadS i) src dst hs hd) fun _ => k

/-- The sixteen chunks of two partials. -/
def chunks (P0 P1 : FVec F S128x512 .f32) : Fin 16 → FVec F S16x512 .f32 :=
  fun k => if k.val < 8 then rowsOf P0 ⟨k.val % 8, Nat.mod_lt _ (by decide)⟩ else rowsOf P1 ⟨k.val % 8, Nat.mod_lt _ (by decide)⟩

/-- After the barrier. -/
def comm (o : Memref sig .tc .vmem S2x128x512 .bf16) (ho : o.IsWhole) (d : Dev nD)
    (x : Vec F S2x128x512 .f32) (wq : Vec F S512x512 .f32) (wk wv : Vec F S512x128 .f32) (wo : Vec F S512x512 .f32) : KProg F :=
  firsts d (partialOf x wq wk wv wo 0) (
    .op (.load woM (Rect.unit (s := S512x512) ![0, 0] S512x512.size inb_S512x512_S512x512_0_0).toLoadRect (View.loadsAt_vmem h_S512x512)) fun wo' =>
    firsts d (partialOf x wq wk wv wo' 1) (
      rounds d (fun A => lasts o ho A 16 32 (by omega)) 32 0 (by omega)
        (chunks (partialOf x wq wk wv wo 0) (partialOf x wq wk wv wo' 1))) 8 8 (by omega)) 8 0 (by omega)

/-- The whole kernel on the output staging buffer `o`. -/
def bodyM (o : Memref sig .tc .vmem S2x128x512 .bf16) (ho : o.IsWhole) : KProg F :=
  .op .deviceId fun (d : Dev nD) =>
  fetch 0 (Memref.whole main_arg0) xM (Memref.isWhole_whole _).wordExact (Memref.isWhole_whole _).wordExact <|
  fetch 1 (Memref.whole main_arg1) wqM (Memref.isWhole_whole _).wordExact (Memref.isWhole_whole _).wordExact <|
  fetch 2 (kvCols d (Memref.whole main_arg2)) wkM (View.wordExact_bits rfl) (Memref.isWhole_whole _).wordExact <|
  fetch 3 (kvCols d (Memref.whole main_arg3)) wvM (View.wordExact_bits rfl) (Memref.isWhole_whole _).wordExact <|
  fetch 4 (Memref.whole main_arg4) woM (Memref.isWhole_whole _).wordExact (Memref.isWhole_whole _).wordExact <|
  .op (.semSignal ((pal d 0 : Dev nD) : Thread nD τ) barS (1#32).toInt) fun _ =>
  .op (.semSignal ((pal d 1 : Dev nD) : Thread nD τ) barS (1#32).toInt) fun _ =>
  .op (.semSignal ((pal d 2 : Dev nD) : Thread nD τ) barS (1#32).toInt) fun _ =>
  await 0 (Memref.whole main_arg0) xM (Memref.isWhole_whole _).wordExact (Memref.isWhole_whole _).wordExact <|
  await 1 (Memref.whole main_arg1) wqM (Memref.isWhole_whole _).wordExact (Memref.isWhole_whole _).wordExact <|
  .op (.load xM (Rect.unit (s := S2x128x512) ![0, 0, 0] S2x128x512.size inb_S2x128x512_S2x128x512_0_0_0).toLoadRect (View.loadsAt_vmem h_S2x128x512)) fun x =>
  .op (.load wqM (Rect.unit (s := S512x512) ![0, 0] S512x512.size inb_S512x512_S512x512_0_0).toLoadRect (View.loadsAt_vmem h_S512x512)) fun wq =>
  await 2 (kvCols d (Memref.whole main_arg2)) wkM (View.wordExact_bits rfl) (Memref.isWhole_whole _).wordExact <|
  await 3 (kvCols d (Memref.whole main_arg3)) wvM (View.wordExact_bits rfl) (Memref.isWhole_whole _).wordExact <|
  .op (.load wkM (Rect.unit (s := S512x128) ![0, 0] S512x128.size inb_S512x128_S512x128_0_0).toLoadRect (View.loadsAt_vmem h_S512x128)) fun wk =>
  .op (.load wvM (Rect.unit (s := S512x128) ![0, 0] S512x128.size inb_S512x128_S512x128_0_0).toLoadRect (View.loadsAt_vmem h_S512x128)) fun wv =>
  await 4 (Memref.whole main_arg4) woM (Memref.isWhole_whole _).wordExact (Memref.isWhole_whole _).wordExact <|
  .op (.load woM (Rect.unit (s := S512x512) ![0, 0] S512x512.size inb_S512x512_S512x512_0_0).toLoadRect (View.loadsAt_vmem h_S512x512)) fun wo =>
  .op (.semWait barS (3#32).toInt) fun _ =>
  comm o ho d x wq wk wv wo

set_option maxRecDepth 65536 in
/-- The printed kernel is the kernel as a loop. -/
theorem body_eq (o : Memref sig .tc .vmem S2x128x512 .bf16) (ho : o.IsWhole) :
    cc0_body (F := F) (Memref.whole main_arg0) (Memref.isWhole_whole _) (Memref.whole main_arg1) (Memref.isWhole_whole _)
      (Memref.whole main_arg4) (Memref.isWhole_whole _) (Memref.whole main_arg2) (Memref.isWhole_whole _)
      (Memref.whole main_arg3) (Memref.isWhole_whole _) o ho (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 (Memref.whole cc0_scratch6) (Memref.isWhole_whole _) (Memref.whole cc0_scratch7) (Memref.isWhole_whole _)
      cc0_scratch8 cc0_scratch9 = bodyM o ho := by
  chain_rfl

end Cert.KernelIdeal.Fly

end
-- ==== Proof.Cells.lean ====
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

/-!
# The protocol

The kernel's semaphores, what each hands over, what each device owes, and the values that travel.

Every semaphore is used for one round. A device's barrier cell has three duties, one per partner mask, each of
one unit; partner `i`'s unit hands over that partner's receive slots exchanged under mask `i`. A load's cell
hands back the loaded scratch and the source. A slot's send cell hands back the slot; its receive cell hands
over the receive slot holding the partner's chunk.
-/

@[expose] public section

noncomputable section

namespace Cert.KernelIdeal.Fly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state of the rounds. -/
abbrev UB : Type := URounds (GSem nD τ sig) (Fin 3)

/-- The whole ghost state: the pipeline's and the rounds'. -/
abbrev UU : Type := UR sig nD τ × UB

local notation "𝕄" => MT nD τ sig Unit (Elt F) ℕ UU ℕ

/-- Where the pipeline's ghost state lies in the whole. -/
abbrev EP : Emb (UR sig nD τ) (MT nD τ sig Unit (Elt F) ℕ UU ℕ) := embL

/-- Where the rounds' ghost state lies in the whole. -/
abbrev ER : Emb UB (MT nD τ sig Unit (Elt F) ℕ UU ℕ) := embR

/-! ## Partners -/

/-- Exchanging under a mask twice is not exchanging. -/
theorem pal_pal : ∀ (d : Dev nD) (i : Fin 3), pal (pal d i) i = d := by decide

/-- Exchanging under a mask, as a permutation of the devices. -/
def palE (i : Fin 3) : Dev nD ≃ Dev nD := ⟨fun d => pal d i, fun d => pal d i, fun d => pal_pal d i, fun d => pal_pal d i⟩

/-! ## Cells -/

/-- A device's cells besides the barrier's: the loads', the sends', the receives'. -/
abbrev OK : Type := Fin 5 ⊕ (Fin 48 ⊕ Fin 48)

/-- A device's cells, the barrier's with the others. -/
abbrev CK : Type := Unit ⊕ OK

/-- The semaphores scoped to the kernel. -/
abbrev osem : OK → SemLoc sig
  | .inl i => .dma (loadS i)
  | .inr (.inl q) => .dma (sendS q)
  | .inr (.inr q) => .dma (recvS q)

/-- All of them. -/
abbrev csem : CK → SemLoc sig
  | .inl _ => .reg barS
  | .inr k => osem k

/-- A cell of a device. -/
abbrev kcell (ck : Dev nD × CK) : GSem nD τ sig := ((ck.1 : Thread nD τ), csem ck.2)

/-- A device's barrier cell. -/
abbrev barCell (c : Dev nD) : GSem nD τ sig := ((c : Thread nD τ), .reg barS)

/-- The cell of a device's load. -/
abbrev loadCell (c : Dev nD) (i : Fin 5) : GSem nD τ sig := ((c : Thread nD τ), .dma (loadS i))

/-- The send cell of a device's slot. -/
abbrev sendCell (c : Dev nD) (q : Fin 48) : GSem nD τ sig := ((c : Thread nD τ), .dma (sendS q))

/-- The receive cell of a device's slot. -/
abbrev recvCell (c : Dev nD) (q : Fin 48) : GSem nD τ sig := ((c : Thread nD τ), .dma (recvS q))

/-- What a slot's copy credits. -/
abbrev N : ℕ := (rSlot 0).view.dmaCredit

/-- A chunk's transfer credits something. -/
theorem N_pos : 0 < N := View.dmaCredit_pos _ (by decide)

/-! ## Values -/

variable (m : (ℓ : Loc nD τ sig) → Buf (Elt F) ℓ)

/-- The inputs as device `c` loads them: the activations, its columns of the query weights, its key and value
    heads' columns, its rows of the output weights. -/
def xv (c : Dev nD) : Vec F S2x128x512 .f32 := (Memref.whole main_arg0).view.read (Elt F) (m ((c : Thread nD τ).loc main_arg0))

/-- The query weights that device `c` loads. -/
def wqv (c : Dev nD) : Vec F S512x512 .f32 := (Memref.whole main_arg1).view.read (Elt F) (m ((c : Thread nD τ).loc main_arg1))

/-- The key weights that device `c` loads. -/
def wkv (c : Dev nD) : Vec F S512x128 .f32 := (kvCols c (Memref.whole main_arg2)).view.read (Elt F) (m ((c : Thread nD τ).loc main_arg2))

/-- The value weights that device `c` loads. -/
def wvv (c : Dev nD) : Vec F S512x128 .f32 := (kvCols c (Memref.whole main_arg3)).view.read (Elt F) (m ((c : Thread nD τ).loc main_arg3))

/-- The output weights that device `c` loads. -/
def wov (c : Dev nD) : Vec F S512x512 .f32 := (Memref.whole main_arg4).view.read (Elt F) (m ((c : Thread nD τ).loc main_arg4))

/-- Device `c`'s partial of batch `b`. -/
def part (c : Dev nD) (b : Fin 2) : FVec F S128x512 .f32 := partialOf (xv m c) (wqv m c) (wkv m c) (wvv m c) (wov m c) b

/-- The mask chunk `k` is exchanged under in round `r`. -/
abbrev maskAt (r : ℕ) (k : Fin 16) : Fin 3 := ⟨(16 * r + k.val) % 3, Nat.mod_lt _ (by decide)⟩

/-- Chunk `k` on device `c` after `r` rounds. -/
def chunkAt : ℕ → Dev nD → Fin 16 → FVec F S16x512 .f32
  | 0, c, k => chunks (part m c 0) (part m c 1) k
  | r + 1, c, k => addR (chunkAt r c k) (packS (chunkAt r (pal c (maskAt r k)) k))

/-- What device `c` sends in slot `q`. -/
def slotV (c : Dev nD) (q : Fin 48) : FVec F S1x1x16x512 .bf16 := packS (chunkAt m (q.val / 16) c (chunkOf q))

/-! ## Points-tos -/

/-- Slot `q` of device `c`'s send scratch, holding `f`. -/
def sPts (c : Dev nD) (q : Fin 48) (f : Buf (Elt F) ((sSlot q).view.loc (c : Thread nD τ))) : sProp 𝕄 :=
  (sSlot q).view.loc (c : Thread nD τ) ↦[(sSlot q).view.set]{fullShare} f

/-- A device's receive slot holding `f`. -/
def rPts (c : Dev nD) (q : Fin 48) (f : Buf (Elt F) ((rSlot q).view.loc (c : Thread nD τ))) : sProp 𝕄 :=
  (rSlot q).view.loc (c : Thread nD τ) ↦[(rSlot q).view.set]{fullShare} f

/-- A send slot can be handed over. -/
instance sPts_storable (c : Dev nD) (q : Fin 48) (f) : BI.Storable (upEmb : UEmb _ 𝕄) (sPts (F := F) c q f) := by
  unfold sPts; infer_instance

/-- A receive slot can be handed over. -/
instance rPts_storable (c : Dev nD) (q : Fin 48) (f) : BI.Storable (upEmb : UEmb _ 𝕄) (rPts (F := F) c q f) := by
  unfold rPts; infer_instance

/-! ## Payloads -/

/-- What partner `i`'s barrier unit hands device `c`: that partner's receive slots exchanged under mask `i`. -/
def barPay (c : Dev nD) (i : Fin 3) : sProp 𝕄 :=
  bigSep Finset.univ fun q : Fin 48 => if maskOf q = i then iprop(∃ f, rPts (F := F) (pal c i) q f) else iprop(emp)

/-- What a load hands back: the scratch reading as the source, and the source. -/
def ldPay {s : Shape} (c : Dev nD) (src : Memref sig .tc .hbm s .f32) (dst : Memref sig .tc .vmem s .f32)
    (fs : Buf (Elt F) (src.view.loc (c : Thread nD τ))) : sProp 𝕄 :=
  iprop((∃ f : Buf (Elt F) (dst.view.loc (c : Thread nD τ)), ⌜dst.view.read (Elt F) f = src.view.read (Elt F) fs⌝
      ∗ (dst.view.loc (c : Thread nD τ) ↦[dst.view.set]{fullShare} f))
    ∗ (src.view.loc (c : Thread nD τ) ↦[src.view.set]{fullShare} fs))

/-- What a load hands back can be handed over. -/
instance ldPay_storable {s : Shape} (c : Dev nD) (src : Memref sig .tc .hbm s .f32) (dst : Memref sig .tc .vmem s .f32) (fs) :
    BI.Storable (upEmb : UEmb _ 𝕄) (ldPay (F := F) c src dst fs) := by unfold ldPay; infer_instance

/-- The five loads' payloads. -/
def loadPay (c : Dev nD) : Fin 5 → sProp 𝕄
  | 0 => ldPay c (Memref.whole main_arg0) xM (m ((c : Thread nD τ).loc main_arg0))
  | 1 => ldPay c (Memref.whole main_arg1) wqM (m ((c : Thread nD τ).loc main_arg1))
  | 2 => ldPay c (kvCols c (Memref.whole main_arg2)) wkM (m ((c : Thread nD τ).loc main_arg2))
  | 3 => ldPay c (kvCols c (Memref.whole main_arg3)) wvM (m ((c : Thread nD τ).loc main_arg3))
  | 4 => ldPay c (Memref.whole main_arg4) woM (m ((c : Thread nD τ).loc main_arg4))

/-- What the five loads credit. -/
def loadN : Fin 5 → ℕ
  | 0 => xM.view.dmaCredit
  | 1 => wqM.view.dmaCredit
  | 2 => wkM.view.dmaCredit
  | 3 => wvM.view.dmaCredit
  | 4 => woM.view.dmaCredit

/-- A load's transfer credits something. -/
theorem loadN_pos : ∀ i, 0 < loadN i
  | 0 => View.dmaCredit_pos _ (by decide)
  | 1 => View.dmaCredit_pos _ (by decide)
  | 2 => View.dmaCredit_pos _ (by decide)
  | 3 => View.dmaCredit_pos _ (by decide)
  | 4 => View.dmaCredit_pos _ (by decide)

/-- A slot's send cell hands back the slot. -/
def sendPay (c : Dev nD) (q : Fin 48) : sProp 𝕄 := iprop(∃ f, sPts (F := F) c q f)

/-- A slot's receive cell hands over the receive slot, reading as the partner's chunk. -/
def recvPay (c : Dev nD) (q : Fin 48) : sProp 𝕄 :=
  iprop(∃ f, ⌜rM.view.readAt (Elt F) (slotRect q).toLoadRect f = slotV m (peer c q) q⌝ ∗ rPts (F := F) c q f)

/-! ## The schedule -/

/-- The load of a load semaphore's number. -/
abbrev ldIx (s : ℕ) : Fin 5 := ⟨(s - 1) % 5, Nat.mod_lt _ (by decide)⟩

/-- The slot of a send semaphore's number. -/
abbrev sdIx (s : ℕ) : Fin 48 := ⟨(s - 6) % 48, Nat.mod_lt _ (by decide)⟩

/-- The slot of a receive semaphore's number. -/
abbrev rvIx (s : ℕ) : Fin 48 := ⟨(s - 54) % 48, Nat.mod_lt _ (by decide)⟩

/-- A cell's duties at round 0. -/
def dutiesOf : SemLoc sig → Finset (Fin 3)
  | .reg _ => Finset.univ
  | .dma s => if s.val = 0 then ∅ else {0}

/-- A duty's units. -/
def amountOf : SemLoc sig → ℕ
  | .reg _ => 1
  | .dma s => if s.val < 6 then loadN (ldIx s.val) else N

/-- A duty's payload. -/
def payOf (c : Dev nD) (d : Fin 3) : SemLoc sig → sProp 𝕄
  | .reg _ => barPay c d
  | .dma s => if s.val < 6 then loadPay m c (ldIx s.val) else if s.val < 54 then sendPay c (sdIx s.val) else recvPay m c (rvIx s.val)

/-- The schedule: one round. -/
def Rd : Rounds.Schedule (GSem nD τ sig) (Fin 3) 𝕄 where
  duties g r := if r = 0 ∧ g.1.2 = .tc then dutiesOf g.2 else ∅
  unitless _ := False
  amount g _ _ := amountOf g.2
  payload g _ d := payOf m g.1.1 d g.2
  amount_pos g _ _ _ := by
    rcases g with ⟨t, s | s⟩
    · exact Nat.one_pos
    · show 0 < (if s.val < 6 then loadN (ldIx s.val) else N)
      split
      · exact loadN_pos _
      · exact N_pos

/-- A barrier unit's payload can be handed over. -/
instance barPay_storable (c : Dev nD) (i : Fin 3) : BI.Storable (upEmb : UEmb _ 𝕄) (barPay (F := F) c i) := by
  unfold barPay
  have h : ∀ q : Fin 48, BI.Storable (upEmb : UEmb _ 𝕄) (if maskOf q = i then iprop(∃ f, rPts (F := F) (pal c i) q f) else iprop(emp)) := by
    intro q; split <;> infer_instance
  infer_instance

/-- A load cell's payload can be handed over. -/
instance loadPay_storable (c : Dev nD) (i : Fin 5) : BI.Storable (upEmb : UEmb _ 𝕄) (loadPay m c i) := by
  unfold loadPay; split <;> infer_instance

/-- A send cell's payload can be handed over. -/
instance sendPay_storable (c : Dev nD) (q : Fin 48) : BI.Storable (upEmb : UEmb _ 𝕄) (sendPay (F := F) c q) := by
  unfold sendPay; infer_instance

/-- A receive cell's payload can be handed over. -/
instance recvPay_storable (c : Dev nD) (q : Fin 48) : BI.Storable (upEmb : UEmb _ 𝕄) (recvPay m c q) := by
  unfold recvPay; infer_instance

/-- Every payload of the schedule can be handed over. -/
instance Rd_payload_storable (g : GSem nD τ sig) (r : ℕ) (d : Fin 3) :
    BI.Storable (upEmb : UEmb _ 𝕄) ((Rd m).payload g r d) := by
  show BI.Storable upEmb (payOf m g.1.1 d g.2)
  unfold payOf
  split
  · infer_instance
  · (repeat' split) <;> infer_instance

section Sched
variable (c : Dev nD)

/-- A load semaphore's number gives its load back. -/
theorem ldIx_load (i : Fin 5) : ldIx (loadS i).val = i := Fin.ext (show (1 + i.val - 1) % 5 = i.val by omega)

/-- A send semaphore's number gives its slot back. -/
theorem sdIx_send (q : Fin 48) : sdIx (sendS q).val = q := Fin.ext (show (6 + q.val - 6) % 48 = q.val by omega)

/-- A receive semaphore's number gives its slot back. -/
theorem rvIx_recv (q : Fin 48) : rvIx (recvS q).val = q := Fin.ext (show (54 + q.val - 54) % 48 = q.val by omega)

/-- A load's semaphore is numbered below 6. -/
theorem load_lt6 (i : Fin 5) : (loadS i).val < 6 := by show 1 + i.val < 6; omega

/-- A send semaphore is not numbered below 6. -/
theorem send_nlt6 (q : Fin 48) : ¬ (sendS q).val < 6 := by show ¬ 6 + q.val < 6; omega

/-- A send semaphore is numbered below 54. -/
theorem send_lt54 (q : Fin 48) : (sendS q).val < 54 := by show 6 + q.val < 54; omega

/-- A receive semaphore is not numbered below 6. -/
theorem recv_nlt6 (q : Fin 48) : ¬ (recvS q).val < 6 := by show ¬ 54 + q.val < 6; omega

/-- A receive semaphore is not numbered below 54. -/
theorem recv_nlt54 (q : Fin 48) : ¬ (recvS q).val < 54 := by show ¬ 54 + q.val < 54; omega

/-- A cell's duties of the first round. -/
theorem duties_zero (sm : SemLoc sig) : (Rd m).duties ((c : Thread nD τ), sm) 0 = dutiesOf sm := by
  dsimp only [Rd]; exact if_pos ⟨rfl, rfl⟩

/-- The barrier has three duties. -/
theorem duties_bar : (Rd m).duties (barCell c) 0 = Finset.univ := duties_zero m c _

/-- A transfer's cell has one duty. -/
theorem duties_dma (s : DmaSem sig) (hs : s.val ≠ 0) : (Rd m).duties ((c : Thread nD τ), .dma s) 0 = {0} :=
  (duties_zero m c _).trans (if_neg hs)

/-- A load's cell has one duty. -/
theorem duties_load (i : Fin 5) : (Rd m).duties (loadCell c i) 0 = {0} := duties_dma m c _ (by show 1 + i.val ≠ 0; omega)

/-- A send cell has one duty. -/
theorem duties_send (q : Fin 48) : (Rd m).duties (sendCell c q) 0 = {0} := duties_dma m c _ (by show 6 + q.val ≠ 0; omega)

/-- A receive cell has one duty. -/
theorem duties_recv (q : Fin 48) : (Rd m).duties (recvCell c q) 0 = {0} := duties_dma m c _ (by show 54 + q.val ≠ 0; omega)

/-- No cell has a duty after the first round. -/
theorem duties_later (g : GSem nD τ sig) : ∀ r, 1 ≤ r → (Rd m).duties g r = ∅ :=
  fun r hr => if_neg fun h => by omega

/-- A barrier duty is one unit. -/
theorem amount_bar (d : Fin 3) : (Rd m).amount (barCell c) 0 d = 1 := rfl

/-- A load's duty is its credit. -/
theorem amount_load (i : Fin 5) (d : Fin 3) : (Rd m).amount (loadCell c i) 0 d = loadN i :=
  (if_pos (load_lt6 i)).trans (by rw [ldIx_load])

/-- A send's duty is a chunk's credit. -/
theorem amount_send (q : Fin 48) (d : Fin 3) : (Rd m).amount (sendCell c q) 0 d = N := if_neg (send_nlt6 q)

/-- A receive's duty is a chunk's credit. -/
theorem amount_recv (q : Fin 48) (d : Fin 3) : (Rd m).amount (recvCell c q) 0 d = N := if_neg (recv_nlt6 q)

/-- The barrier expects three units. -/
theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]

/-- A load's cell expects its credit. -/
theorem expect_load (i : Fin 5) : (Rd m).expect (loadCell c i) 0 = loadN i := by
  unfold Schedule.expect Schedule.amountOf; rw [duties_load, Finset.sum_singleton, amount_load]

/-- A send cell expects a chunk's credit. -/
theorem expect_send (q : Fin 48) : (Rd m).expect (sendCell c q) 0 = N := by
  unfold Schedule.expect Schedule.amountOf; rw [duties_send, Finset.sum_singleton, amount_send]

/-- A receive cell expects a chunk's credit. -/
theorem expect_recv (q : Fin 48) : (Rd m).expect (recvCell c q) 0 = N := by
  unfold Schedule.expect Schedule.amountOf; rw [duties_recv, Finset.sum_singleton, amount_recv]

/-- What a barrier unit hands over. -/
theorem payload_bar (d : Fin 3) : (Rd m).payload (barCell c) 0 d = barPay c d := rfl

/-- What a load's cell hands over. -/
theorem payload_load (i : Fin 5) (d : Fin 3) : (Rd m).payload (loadCell c i) 0 d = loadPay m c i :=
  (if_pos (load_lt6 i)).trans (by rw [ldIx_load])

/-- What a send cell hands over. -/
theorem payload_send (q : Fin 48) (d : Fin 3) : (Rd m).payload (sendCell c q) 0 d = sendPay c q :=
  (if_neg (send_nlt6 q)).trans ((if_pos (send_lt54 q)).trans (by rw [sdIx_send]))

/-- What a receive cell hands over. -/
theorem payload_recv (q : Fin 48) (d : Fin 3) : (Rd m).payload (recvCell c q) 0 d = recvPay m c q :=
  (if_neg (recv_nlt6 q)).trans ((if_neg (recv_nlt54 q)).trans (by rw [rvIx_recv]))

/-- What a wait for a whole round hands over. -/
theorem rest_bar : bigSep ((Rd m).duties (barCell c) 0 \ ∅) (fun d => (Rd m).payload (barCell c) 0 d)
    = bigSep Finset.univ fun i : Fin 3 => barPay (F := F) c i := by
  rw [Finset.sdiff_empty, duties_bar]; rfl

/-- All that a load's cell hands over. -/
theorem rest_load (i : Fin 5) : bigSep ((Rd m).duties (loadCell c i) 0 \ ∅) (fun d => (Rd m).payload (loadCell c i) 0 d) = loadPay m c i := by
  rw [Finset.sdiff_empty, duties_load, bigSep_singleton, payload_load]

/-- All that a send cell hands over. -/
theorem rest_send (q : Fin 48) : bigSep ((Rd m).duties (sendCell c q) 0 \ ∅) (fun d => (Rd m).payload (sendCell c q) 0 d) = sendPay (F := F) c q := by
  rw [Finset.sdiff_empty, duties_send, bigSep_singleton, payload_send]

/-- All that a receive cell hands over. -/
theorem rest_recv (q : Fin 48) : bigSep ((Rd m).duties (recvCell c q) 0 \ ∅) (fun d => (Rd m).payload (recvCell c q) 0 d) = recvPay m c q := by
  rw [Finset.sdiff_empty, duties_recv, bigSep_singleton, payload_recv]

end Sched

/-- Slots sorted by their mask. -/
theorem by_mask (Φ : Fin 48 → Fin 3 → sProp 𝕄) :
    (bigSep Finset.univ fun i : Fin 3 => bigSep Finset.univ fun q : Fin 48 => if maskOf q = i then Φ q i else iprop(emp))
      = bigSep Finset.univ fun q : Fin 48 => Φ q (maskOf q) := by
  rw [bigSep_univ_comm]
  refine bigSep_congr fun q _ => ?_
  rw [bigSep_univ_at _ (maskOf q), if_pos rfl, bigSep_congr (Ψ := fun _ => iprop(emp)) fun i hi => if_neg (Finset.ne_of_mem_erase hi).symm]
  exact (congrArg (fun P => iprop(Φ q (maskOf q) ∗ P)) (bigSep_emp_const _)).trans (equiv_iff.mp BI.sep_emp)

/-! ## What a device owes -/

/-- Device `c`'s copies from slot `n` on: what they owe the partners' receive cells. -/
def Owe (c : Dev nD) (n : ℕ) : CellTallies nD τ sig Unit :=
  ∑ q : Fin 48, if n ≤ q.val then tallyAt (recvCell (peer c q) q) () N else 0

/-- What a device owes once it has signalled its first two partners. -/
def O₂ (c : Dev nD) : CellTallies nD τ sig Unit := Owe c 0 + tallyAt (barCell (pal c 2)) () 1

/-- What a device owes once it has signalled its first partner. -/
def O₁ (c : Dev nD) : CellTallies nD τ sig Unit := O₂ c + tallyAt (barCell (pal c 1)) () 1

/-- What a device owes at the start. -/
def O₀ (c : Dev nD) : CellTallies nD τ sig Unit := O₁ c + tallyAt (barCell (pal c 0)) () 1

/-- The copy of slot `q` pays slot `q`'s credit. -/
theorem Owe_step (c : Dev nD) (q : Fin 48) : Owe c q.val = Owe c (q.val + 1) + tallyAt (recvCell (peer c q) q) () N := by
  unfold Owe
  refine (Finset.sum_erase_add Finset.univ _ (Finset.mem_univ q)).symm.trans ?_
  refine (congrArg₂ (· + ·) ?_ (if_pos le_rfl)).trans (congrArg (· + _) (Finset.sum_erase _ (if_neg (Nat.not_succ_le_self q.val))))
  refine Finset.sum_congr rfl fun q' hq' => ?_
  have hne : q'.val ≠ q.val := fun h => Finset.ne_of_mem_erase hq' (Fin.ext h)
  by_cases h : q.val ≤ q'.val
  · rw [if_pos h, if_pos (by omega)]
  · rw [if_neg h, if_neg (by omega)]

/-- After the last copy nothing is owed. -/
theorem Owe_end (c : Dev nD) : Owe c 48 = 0 := Finset.sum_eq_zero fun q _ => if_neg (by omega)

/-- What is owed to a cell from slot `n` on, as a sum over the slots. -/
theorem Owe_apply (c : Dev nD) (n : ℕ) (g : GSem nD τ sig) (u : Unit) :
    Owe c n g u = ∑ q : Fin 48, (if n ≤ q.val then (tallyAt (recvCell (peer c q) q) () N : CellTallies nD τ sig Unit) else 0) g u := by
  unfold Owe; rw [Finset.sum_apply, Finsupp.finset_sum_apply]

/-- Only receive cells of slots from `n` on are owed to. -/
theorem Owe_pos {c : Dev nD} {n : ℕ} {g : GSem nD τ sig} {u : Unit} (h : 0 < Owe c n g u) :
    ∃ q : Fin 48, n ≤ q.val ∧ g = recvCell (peer c q) q := by
  rw [Owe_apply] at h
  obtain ⟨q, _, hq⟩ := Finset.exists_ne_zero_of_sum_ne_zero (Nat.ne_of_gt h)
  by_cases hn : n ≤ q.val
  · rw [if_pos hn, tallyAt_apply] at hq
    refine ⟨q, hn, ?_⟩
    by_contra hg
    exact hq (if_neg fun h' => hg h'.1)
  · rw [if_neg hn] at hq; exact absurd rfl hq

/-- At the start only partners' receive and barrier cells are owed to. -/
theorem O₀_pos {c : Dev nD} {g : GSem nD τ sig} {u : Unit} (h : 0 < O₀ c g u) :
    (∃ q : Fin 48, g = recvCell (peer c q) q) ∨ ∃ i, g = barCell (pal c i) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 _ h'.1), if_neg (fun h' => hn.2 _ h'.1), if_neg (fun h' => hn.2 _ h'.1)] at h
  obtain ⟨q, _, hq⟩ := Owe_pos (c := c) (n := 0) (g := g) (u := u) (by omega)
  exact hn.1 q hq

/-! ## Levels -/

/-- The indices that a cell has levels at: one on a TensorCore, none elsewhere. -/
def L (g : GSem nD τ sig) : Finset Unit := if g.1.2 = .tc then {()} else ∅

/-- A semaphore's level: the barrier above the loads and the sends, receive slot `q` above both and in order. -/
def lvS : SemLoc sig → ℕ
  | .reg _ => 1
  | .dma s => if s.val < 54 then 0 else 2 + (s.val - 54)

/-- A cell's level. -/
def lv (g : GSem nD τ sig) (_ : Unit) : ℕ := lvS g.2

/-- A cell of any other core has no index. -/
theorem L_of_ne (g : GSem nD τ sig) (h : g.1.2 ≠ .tc) : L g = ∅ := if_neg h

/-- A TensorCore's cell has its one index. -/
theorem L_tc (c : Dev nD) (sm : SemLoc sig) : L ((c : Thread nD τ), sm) = {()} := if_pos rfl

/-- The level of slot `q`'s receive cell is `2 + q`. -/
theorem lvS_recv (q : Fin 48) : lvS (.dma (recvS q)) = 2 + q.val :=
  (if_neg (recv_nlt54 q)).trans (by show 2 + (54 + q.val - 54) = 2 + q.val; omega)

/-- A device may wait on a cell below everything it still owes. -/
theorem mayWait_owe (c : Dev nD) (sm : SemLoc sig) (n : ℕ) (h : lvS sm < 2 + n) :
    (levAts L lv : sProp 𝕄) ⊢ MayWait (c : Thread nD τ) sm () (Owe c n) :=
  MayOwe.of_cut (L := L) (lev := lv) (lvS sm) (fun p hp => by rw [Finset.mem_singleton.mp hp, L_tc]; exact Finset.mem_singleton_self _)
    (fun g u hg => by obtain ⟨q, _, rfl⟩ := Owe_pos hg; exact Finset.mem_singleton_self _)
    (fun p hp => by rw [Finset.mem_singleton.mp hp]; exact le_rfl)
    (fun g u hg => by obtain ⟨q, hq, rfl⟩ := Owe_pos hg; show lvS sm < lvS (.dma (recvS q)); rw [lvS_recv]; omega)

/-- A device may wait on a cell of level 0 from the start. -/
theorem mayWait_zero (c : Dev nD) (sm : SemLoc sig) (h : lvS sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨q, rfl⟩ | ⟨i, rfl⟩ <;> exact Finset.mem_singleton_self _)
      (fun p hp => by rw [Finset.mem_singleton.mp hp]; exact h.le)
      (fun g u hg => by
        rcases O₀_pos hg with ⟨q, rfl⟩ | ⟨i, rfl⟩
        · show 0 < lvS (.dma (recvS q)); rw [lvS_recv]; omega
        · exact Nat.one_pos)
  · rw [MayWait_zero]; iintro -; iempintro

/-! ## The records every device holds -/

/-- Every cell's invariant, and that every cell is at round 0 or later. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

/-- The records can be kept and copied. -/
instance records_persistent (K : Dev nD × CK → ℕ) : BI.Persistent (records m K) := by unfold records; infer_instance

/-- One of a family. -/
theorem at_univ {I : Type} [Fintype I] [DecidableEq I] (Φ : I → sProp 𝕄) (i : I) : bigSep Finset.univ Φ ⊢ Φ i :=
  bigSep_elim (Finset.mem_univ i)

/-- A cell's invariant, from the records. -/
theorem inv_at (K : Dev nD × CK → ℕ) (ck : Dev nD × CK) : records m K ⊢ cellInv ER (Rd m) (K ck) (kcell ck) := by
  unfold records; iintro ⟨H, -⟩
  iapply (at_univ (fun ck : Dev nD × CK => (cellInv ER (Rd m) (K ck) (kcell ck) : sProp 𝕄)) ck); iexact H

/-- A cell has reached its first round, from the records. -/
theorem reached_at (K : Dev nD × CK → ℕ) (ck : Dev nD × CK) : records m K ⊢ reached ER (kcell ck) 0 := by
  unfold records; iintro ⟨-, H⟩
  iapply (at_univ (fun ck : Dev nD × CK => (reached ER (kcell ck) 0 : sProp 𝕄)) ck); iexact H

end Cert.KernelIdeal.Fly

end
-- ==== Proof.Steps.lean ====
module

public import proofs.«01_k».proof.Proof.Cells

/-!
# The steps

The proof rule of each kind of step: sending a slot, waiting for a slot, starting and awaiting a load.
-/

@[expose] public section

noncomputable section

namespace Cert.KernelIdeal.Fly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop needs a measure. -/
abbrev 𝒱₀ : Variants := Variants.none

/-- The weakest precondition of a program on device `c`. -/
abbrev WP (c : Dev nD) (p : KProg F) (Q : PUnit → sProp 𝕄) : sProp 𝕄 :=
  wp frame (wpE (defs₀ (F := F)) 𝒱₀ (c : Thread nD τ) none) Set.univ p Q

/-! ## A slot's states -/

/-- Before its copy starts: the send slot, the partner's receive slot, what the copy pays with, the positions at
    its two cells, and the credit its arrival will need. -/
def unsent (c : Dev nD) (q : Fin 48) : sProp 𝕄 :=
  iprop((∃ f, sPts (F := F) c q f) ∗ (∃ f, rPts (F := F) (peer c q) q f)
    ∗ dutyTok ER (sendCell c q) 0 0 ∗ dutyTok ER (recvCell (peer c q) q) 0 0
    ∗ atPos ER (sendCell c q) 0 ∅ 0 ∗ atPos ER (recvCell c q) 0 ∅ 0 ∗ cred (tallyAt (recvCell c q) () N))

/-- While the copy is in flight: the positions and the credits. -/
def flying (c : Dev nD) (q : Fin 48) : sProp 𝕄 :=
  iprop(cred (tallyAt (sendCell c q) () N) ∗ cred (tallyAt (recvCell c q) () N)
    ∗ atPos ER (sendCell c q) 0 ∅ 0 ∗ atPos ER (recvCell c q) 0 ∅ 0)

/-- After both waits: the two slots and the two cells at zero. -/
def landed (c : Dev nD) (q : Fin 48) : sProp 𝕄 :=
  iprop((∃ f, sPts (F := F) c q f) ∗ (∃ f, rPts (F := F) c q f) ∗ semVal (sendCell c q) 0 ∗ semVal (recvCell c q) 0)

/-- Every slot, when those below `s` are sent and those below `w` waited for. -/
def St (c : Dev nD) (s w : ℕ) : sProp 𝕄 :=
  bigSep Finset.univ fun q : Fin 48 => if q.val < w then landed (F := F) c q else if q.val < s then flying c q else unsent c q

/-- The slots and what is still owed. -/
def Core (c : Dev nD) (s w : ℕ) : sProp 𝕄 := iprop(St (F := F) c s w ∗ ∃ W, owes (c : Thread nD τ) (Owe c s) W)

/-- Sending slot `q` changes its state alone. -/
theorem St_send (c : Dev nD) (q : Fin 48) (w : ℕ) (hw : w ≤ q.val) :
    St (F := F) c q.val w ⊢ iprop(unsent c q ∗ (flying c q -∗ St c (q.val + 1) w)) := by
  unfold St
  refine (bigSep_univ_update (Ψ := fun j : Fin 48 => if j.val < w then landed (F := F) c j else if j.val < q.val + 1 then flying c j else unsent c j) q fun j hj => ?_).trans ?_
  · have hne : j.val ≠ q.val := fun h => hj (Fin.ext h)
    by_cases h : j.val < q.val
    · rw [if_pos h, if_pos (show j.val < q.val + 1 by omega)]
    · rw [if_neg h, if_neg (show ¬ j.val < q.val + 1 by omega)]
  · simp only [if_neg (show ¬ q.val < w by omega), if_neg (lt_irrefl q.val), if_pos (Nat.lt_succ_self q.val)]
    exact BI.Entails.refl _

/-- Waiting for slot `q` changes its state alone. -/
theorem St_wait (c : Dev nD) (q : Fin 48) (s : ℕ) (hs : q.val < s) :
    St (F := F) c s q.val ⊢ iprop(flying c q ∗ (landed c q -∗ St c s (q.val + 1))) := by
  unfold St
  refine (bigSep_univ_update (Ψ := fun j : Fin 48 => if j.val < q.val + 1 then landed (F := F) c j else if j.val < s then flying c j else unsent c j) q fun j hj => ?_).trans ?_
  · have hne : j.val ≠ q.val := fun h => hj (Fin.ext h)
    by_cases h : j.val < q.val
    · rw [if_pos h, if_pos (show j.val < q.val + 1 by omega)]
    · rw [if_neg h, if_neg (show ¬ j.val < q.val + 1 by omega)]
  · simp only [if_neg (lt_irrefl q.val), if_pos hs, if_pos (Nat.lt_succ_self q.val)]
    exact BI.Entails.refl _

/-! ## Sending -/

/-- What a copy of slot `q` leaves in the receive slot is what was stored into the send slot. -/
theorem slot_arrives (q : Fin 48) (f : (cc0_scratch6 : Ref sig .tc).ty.Contents (Elt F)) (fd : (cc0_scratch7 : Ref sig .tc).ty.Contents (Elt F))
    (v : FVec F S1x1x16x512 .bf16) :
    rM.view.readAt (Elt F) (slotRect q).toLoadRect
      ((rSlot q).view.write (Elt F) fd ((sSlot q).view.read (Elt F) ((sM.access (slotRect q)).write (Elt F) f v Finset.univ)) Finset.univ) = v := by
  funext x
  have hn : S16x512.numel = S1x1x16x512.numel := Shape.Squeezes.numel_eq squeezes_S1x1x16x512_S16x512
  obtain ⟨y, rfl⟩ := (Shape.reshapeEquiv hn).surjective x
  refine (congrFun (View.read_write_univ (v := (rSlot q).view) (Val := Elt F) fd _) y).trans ?_
  exact congrFun (View.read_write_univ (v := sM.access (slotRect q)) (Val := Elt F) f v) (Shape.reshapeEquiv hn y)

/-- A send slot's elements are its rectangle's. -/
theorem sSlot_set (q : Fin 48) : (sSlot q).view.set = (sM.access (slotRect q)).set := View.set_reshape _ _

/-- A receive slot's elements are its rectangle's. -/
theorem rSlot_set (q : Fin 48) : (rSlot q).view.set = (rM.access (slotRect q)).set := View.set_reshape _ _

/-- The copy of slot `q` to its partner. -/
theorem wp_copyQ (K : Dev nD × CK → ℕ) (c : Dev nD) (q : Fin 48) (n : Dev nD) (hn : n = peer c q)
    {hsc : (rSlot q).view.ref.isScScratch = false} {hsrc : (sSlot q).view.WordExact} {hdst : (rSlot q).view.WordExact}
    {hsem : DmaTarget.Typed .vmem (.dma (recvS q)) (.remote (Dev.tc n : Thread nD τ) (rSlot q) (.dma (sendS q)) hsc)}
    {Q : PUnit → sProp 𝕄} {k : PUnit → KProg F}
    (fs : Buf (Elt F) ((sSlot q).view.loc (c : Thread nD τ))) (fd : Buf (Elt F) ((rSlot q).view.loc (n : Thread nD τ))) (W : Waits sig Unit)
    (hv : rM.view.readAt (Elt F) (slotRect q).toLoadRect ((rSlot q).view.write (Elt F) fd ((sSlot q).view.read (Elt F) fs) Finset.univ) = slotV m c q) :
    iprop(records m K ∗ sPts c q fs ∗ rPts n q fd ∗ owes (c : Thread nD τ) (Owe c q.val) W
        ∗ dutyTok ER (sendCell c q) 0 0 ∗ dutyTok ER (recvCell n q) 0 0)
      ⊢ iprop(((cred (tallyAt (sendCell c q) () N) ∗ owes (c : Thread nD τ) (Owe c (q.val + 1)) W) -∗ WP c (k ⟨⟩) Q)
          -∗ WP c (.op (.enqueueDma (sSlot q) (.remote (Dev.tc n : Thread nD τ) (rSlot q) (.dma (sendS q)) hsc) (.dma (recvS q)) hsrc hdst hsem) k) Q) := by
  subst hn
  iintro ⟨#HR, Hs, Hd, HO, HtS, HtV⟩
  ihave #HIs := (inv_at m K (c, .inr (.inr (.inl q)))) $$ HR
  ihave #HIv := (inv_at m K (peer c q, .inr (.inr (.inr q)))) $$ HR
  ihave #Hrs := (reached_at m K (c, .inr (.inr (.inl q)))) $$ HR
  ihave #Hrv := (reached_at m K (peer c q, .inr (.inr (.inr q)))) $$ HR
  unfold sPts rPts
  iapply (Rounds.wp_send_pointsTo 𝒱₀ ER (Rd m) (c : Thread nD τ) none (κ₁ := K (c, .inr (.inr (.inl q)))) (κ₂ := K (peer c q, .inr (.inr (.inr q))))
    (r₁ := 0) (r₂ := 0) (d₁ := 0) (d₂ := 0) (fs := fs) (fd := fd)
    (by rw [duties_send]; exact Finset.mem_singleton_self _) (by rw [duties_recv]; exact Finset.mem_singleton_self _)
    () () N rfl (amount_send m c q 0) (amount_recv m (peer c q) q 0) (Owe c (q.val + 1)) (Owe_step c q) (W := W)
    (by rw [payload_send]; unfold sendPay sPts; iintro H; iexists fs; iexact H)
    (by
      rw [payload_recv]; unfold recvPay rPts; iintro H
      iexists ((rSlot q).view.write (Elt F) fd ((sSlot q).view.read (Elt F) fs) Finset.univ)
      isplitr
      · ipureintro; rw [hv]; unfold peer; rw [pal_pal]
      · iexact H)) $$ [Hs Hd HO HtS HtV]
  isplitr; · iexact HIs
  isplitr; · iexact HIv
  isplitl [Hs]; · iexact Hs
  isplitl [Hd]; · iexact Hd
  isplitl [HO]; · iexact HO
  isplitl [HtS]; · iexact HtS
  isplitr; · iexact Hrs
  isplitl [HtV]; · iexact HtV
  iexact Hrv

/-- Sending slot `q`. -/
theorem wp_sendQ (K : Dev nD × CK → ℕ) (c : Dev nD) (q : Fin 48) (w : ℕ) (hw : w ≤ q.val) (v : FVec F S1x1x16x512 .bf16) (hv : v = slotV m c q)
    {Q : PUnit → sProp 𝕄} {k : KProg F} :
    iprop(records m K ∗ Core (F := F) c q.val w) ⊢ iprop((Core c (q.val + 1) w -∗ WP c k Q) -∗ WP c (sendQ c q v k) Q) := by
  subst hv
  unfold Core sendQ
  iintro ⟨#HR, HSt, ⟨%W, HO⟩⟩ Hk
  ihave H := (St_send c q w hw) $$ HSt
  unfold unsent sPts
  icases H with ⟨⟨⟨%f, Hs⟩, ⟨%fd, Hd⟩, HtS, HtV, HaS, HaV, HcV⟩, Hback⟩
  iapply (wp_load 𝒱₀ (c : Thread nD τ) none Set.univ (m := sM) (by rw [sSlot_set, View.set_slice]; exact Finset.Subset.refl _)) $$ Hs; iintro Hs
  iapply (wp_store 𝒱₀ (c : Thread nD τ) none Set.univ (m := sM) (r := slotRect q) (Mk := Finset.univ) (by rw [sSlot_set]; exact Finset.Subset.refl _)) $$ Hs; iintro Hs
  iapply (wp_copyQ m K c q (peer c q) rfl ((sM.access (slotRect q)).write (Elt F) f (slotV m c q) Finset.univ) fd W (slot_arrives q f fd _)) $$ [Hs Hd HO HtS HtV]
  · isplitr; · iexact HR
    isplitl [Hs]; · unfold sPts; iexact Hs
    isplitl [Hd]; · iexact Hd
    isplitl [HO]; · iexact HO
    isplitl [HtS]; · iexact HtS
    iexact HtV
  iintro ⟨HcS, HO⟩
  iapply Hk
  isplitr [HO]
  · iapply Hback; unfold flying
    isplitl [HcS]; · iexact HcS
    isplitl [HcV]; · iexact HcV
    isplitl [HaS] <;> iassumption
  · iexists W; iexact HO

/-! ## Waiting -/

/-- Waiting for slot `q`: what arrived is the partner's chunk. -/
theorem wp_waitQ (K : Dev nD × CK → ℕ) (c : Dev nD) (q : Fin 48) (s : ℕ) (hs : q.val < s)
    {Q : PUnit → sProp 𝕄} {k : Vec F S1x1x16x512 .bf16 → KProg F} :
    iprop(records m K ∗ levAts L lv ∗ Core (F := F) c s q.val)
      ⊢ iprop((Core c s (q.val + 1) -∗ WP c (k (slotV m (peer c q) q)) Q) -∗ WP c (waitQ q k) Q) := by
  unfold Core waitQ
  iintro ⟨#HR, #Hlev, HSt, ⟨%W, HO⟩⟩ Hk
  ihave H := (St_wait c q s hs) $$ HSt
  unfold flying
  icases H with ⟨⟨HcS, HcV, HaS, HaV⟩, Hback⟩
  ihave #HIs := (inv_at m K (c, .inr (.inr (.inl q)))) $$ HR
  ihave #HIv := (inv_at m K (c, .inr (.inr (.inr q)))) $$ HR
  iapply (Rounds.wp_wait_rest_token 𝒱₀ ER (Rd m) (c : Thread nD τ) none (κ := K (c, .inr (.inr (.inl q))))
      (wpE_waitDma2_eq 𝒱₀ (c : Thread nD τ) none Set.univ) (Set.mem_univ _) () (O := Owe c s) (W := W) (R := 0) (m := 0) (T := ∅)
      (by rw [Nat.zero_add, expect_send])) $$ [HcS HO HaS]
  · isplitr; · iexact HIs
    isplitl [HcS]; · iexact HcS
    isplitl [HO]; · iexact HO
    isplitr
    · iapply (mayWait_owe c (.dma (sendS q)) s (by show (if (sendS q).val < 54 then 0 else _) < _; rw [if_pos (send_lt54 q)]; omega)); iexact Hlev
    iexact HaS
  iintro ⟨HO, HaS, -, Hpay⟩
  ihave HpS := (Entails.of_eq (rest_send m c q)) $$ Hpay
  iapply (Rounds.wp_wait_rest_token 𝒱₀ ER (Rd m) (c : Thread nD τ) none (κ := K (c, .inr (.inr (.inr q))))
      (wpE_waitDma2_eq 𝒱₀ (c : Thread nD τ) none Set.univ) (Set.mem_univ _) () (O := Owe c s) (W := insert (SemLoc.dma (sendS q), ()) W) (R := 0) (m := 0) (T := ∅)
      (by rw [Nat.zero_add, expect_recv])) $$ [HcV HO HaV]
  · isplitr; · iexact HIv
    isplitl [HcV]; · iexact HcV
    isplitl [HO]; · iexact HO
    isplitr
    · iapply (mayWait_owe c (.dma (recvS q)) s (by rw [lvS_recv]; omega)); iexact Hlev
    iexact HaV
  iintro ⟨HO, HaV, -, Hpay⟩
  ihave HpV := (Entails.of_eq (rest_recv m c q)) $$ Hpay
  imod (Rounds.cell_close ER (Rd m) (Set.mem_univ (K (c, .inr (.inr (.inl q))))) (fun h => h) (R := 0 + 1) (duties_later m (sendCell c q))) $$ [HaS] with HzS
  · isplitr; · iexact HIs
    iexact HaS
  imod (Rounds.cell_close ER (Rd m) (Set.mem_univ (K (c, .inr (.inr (.inr q))))) (fun h => h) (R := 0 + 1) (duties_later m (recvCell c q))) $$ [HaV] with HzV
  · isplitr; · iexact HIv
    iexact HaV
  unfold recvPay rPts
  icases HpV with ⟨%f, %hf, Hr⟩
  iapply (wp_load 𝒱₀ (c : Thread nD τ) none Set.univ (m := rM) (by rw [rSlot_set, View.set_slice]; exact Finset.Subset.refl _)) $$ Hr; iintro Hr
  rw [hf]
  iapply Hk
  isplitr [HO]
  · iapply Hback; unfold landed sendPay rPts
    isplitl [HpS]; · iexact HpS
    isplitl [Hr]; · iexists f; iexact Hr
    isplitl [HzS] <;> iassumption
  · iexists _; iexact HO

/-! ## Loads -/

/-- A load of one of the kernel's inputs. -/
structure IsLoad {s : Shape} (c : Dev nD) (i : Fin 5) (src : Memref sig .tc .hbm s .f32) (dst : Memref sig .tc .vmem s .f32)
    (fs : Buf (Elt F) (src.view.loc (c : Thread nD τ))) : Prop where
  pay : loadPay m c i = ldPay c src dst fs
  amt : loadN i = dst.view.dmaCredit

/-- What is held of load `i` before it starts. -/
def ldSt (c : Dev nD) (i : Fin 5) : sProp 𝕄 := iprop(dutyTok ER (loadCell c i) 0 0 ∗ atPos ER (loadCell c i) 0 ∅ 0)
/-- What is held of it in flight. -/
def ldFly (c : Dev nD) (i : Fin 5) : sProp 𝕄 := iprop(cred (tallyAt (loadCell c i) () (loadN i)) ∗ atPos ER (loadCell c i) 0 ∅ 0)

/-- Starting load `i`. -/
theorem wp_fetch {s : Shape} (K : Dev nD × CK → ℕ) (c : Dev nD) (i : Fin 5) (src : Memref sig .tc .hbm s .f32) (dst : Memref sig .tc .vmem s .f32)
    (fs : Buf (Elt F) (src.view.loc (c : Thread nD τ))) (h : IsLoad m c i src dst fs) {hs : src.view.WordExact} {hd : dst.view.WordExact}
    {Q : PUnit → sProp 𝕄} {k : KProg F} :
    iprop(records m K ∗ ldSt c i ∗ (src.view.loc (c : Thread nD τ) ↦[src.view.set]{fullShare} fs)
        ∗ (∃ fd, dst.view.loc (c : Thread nD τ) ↦[dst.view.set]{fullShare} fd))
      ⊢ iprop((ldFly (F := F) c i -∗ WP c k Q) -∗ WP c (fetch i src dst hs hd k) Q) := by
  unfold ldSt ldFly fetch
  iintro ⟨#HR, ⟨Ht, Ha⟩, Hs, ⟨%fd, Hd⟩⟩ Hk
  ihave #HI := (inv_at m K (c, .inr (.inl i))) $$ HR
  ihave #Hr := (reached_at m K (c, .inr (.inl i))) $$ HR
  iapply (Rounds.wp_copy_pointsTo 𝒱₀ ER (Rd m) (c : Thread nD τ) none (sem := .dma (loadS i)) (κ := K (c, .inr (.inl i))) (r := 0) (d := 0) (fs := fs) (fd := fd) (q := fullShare)
    (by rw [duties_load]; exact Finset.mem_singleton_self _) () (loadN i) h.amt.symm (amount_load m c i 0)
    (by
      rw [payload_load, h.pay]; unfold ldPay; iintro ⟨Hd, Hs⟩
      isplitl [Hd]
      · iexists (dst.view.write (Elt F) fd (src.view.read (Elt F) fs) Finset.univ)
        isplitr; · ipureintro; exact View.read_write_univ _ _
        iexact Hd
      · iexact Hs)) $$ [Hs Hd Ht]
  · isplitr; · iexact HI
    isplitl [Hs]; · iexact Hs
    isplitl [Hd]; · iexact Hd
    isplitl [Ht]; · iexact Ht
    iexact Hr
  iintro Hc
  iapply Hk
  isplitl [Hc] <;> iassumption

/-- Awaiting load `i`, owing the copies only. -/
theorem wp_await {s : Shape} (K : Dev nD × CK → ℕ) (c : Dev nD) (i : Fin 5) (src : Memref sig .tc .hbm s .f32) (dst : Memref sig .tc .vmem s .f32)
    (fs : Buf (Elt F) (src.view.loc (c : Thread nD τ))) (h : IsLoad m c i src dst fs) {hs : src.view.WordExact} {hd : dst.view.WordExact}
    {Q : PUnit → sProp 𝕄} {k : KProg F} :
    iprop(records m K ∗ levAts L lv ∗ ldFly (F := F) c i ∗ (∃ W, owes (c : Thread nD τ) (Owe c 0) W))
      ⊢ iprop((ldPay c src dst fs ∗ semVal (loadCell c i) 0 ∗ (∃ W, owes (c : Thread nD τ) (Owe c 0) W) -∗ WP c k Q) -∗ WP c (await i src dst hs hd k) Q) := by
  unfold ldFly await
  iintro ⟨#HR, #Hlev, ⟨Hc, Ha⟩, ⟨%W, HO⟩⟩ Hk
  ihave #HI := (inv_at m K (c, .inr (.inl i))) $$ HR
  iapply (Rounds.wp_wait_rest_token 𝒱₀ ER (Rd m) (c : Thread nD τ) none (κ := K (c, .inr (.inl i)))
      (wpE_waitDma2_eq 𝒱₀ (c : Thread nD τ) none Set.univ) (Set.mem_univ _) () (O := Owe c 0) (W := W) (R := 0) (m := 0) (T := ∅)
      (by rw [Nat.zero_add, expect_load, h.amt])) $$ [Hc HO Ha]
  · isplitr; · iexact HI
    isplitl [Hc]; · rw [← h.amt]; iexact Hc
    isplitl [HO]; · iexact HO
    isplitr
    · iapply (mayWait_owe c (.dma (loadS i)) 0 (by show (if (loadS i).val < 54 then 0 else _) < _; rw [if_pos (lt_trans (load_lt6 i) (by decide))]; omega)); iexact Hlev
    iexact Ha
  iintro ⟨HO, Ha, -, Hpay⟩
  ihave Hp := (Entails.of_eq ((rest_load m c i).trans h.pay)) $$ Hpay
  imod (Rounds.cell_close ER (Rd m) (Set.mem_univ (K (c, .inr (.inl i)))) (fun h => h) (R := 0 + 1) (duties_later m (loadCell c i))) $$ [Ha] with Hz
  · isplitr; · iexact HI
    iexact Ha
  iapply Hk
  isplitl [Hp]; · iexact Hp
  isplitl [Hz]; · iexact Hz
  iexists _; iexact HO

end Cert.KernelIdeal.Fly

end
-- ==== Proof.Body.lean ====
module

public import proofs.«01_k».proof.Proof.Steps

/-!
# The run of one device

The loops, one step lemma per iteration, and the whole kernel from what a device starts with to what it ends with.
-/

@[expose] public section

noncomputable section

namespace Cert.KernelIdeal.Fly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The output -/

/-- The output's buffer. -/
abbrev oM : Memref sig .tc .vmem S2x128x512 .bf16 := Memref.whole cc0_stg0_0

/-- The chunk an output element lies in. -/
abbrev outChunk (i : S2x128x512.Idx) : Fin 16 :=
  ⟨8 * (i 0).val + (i 1).val / 16, by
    have h0 : (i 0).val < 2 := (i 0).isLt
    have h1 : (i 1).val < 128 := (i 1).isLt
    omega⟩

/-- Where an element of the output lies in its chunk. -/
abbrev outPos (i : S2x128x512.Idx) : S1x16x512.Idx := fun a => match a with
  | 0 => (⟨0, Nat.one_pos⟩ : Fin 1)
  | 1 => (⟨(i 1).val % 16, Nat.mod_lt _ (by decide)⟩ : Fin 16)
  | 2 => (i 2 : Fin 512)

/-- Device `c`'s result. -/
def outC (c : Dev nD) : (cc0_stg0_0 : Ref sig .tc).ty.Contents (Elt F) :=
  fun i : S2x128x512.Idx => packO (chunkAt m 3 c (outChunk i)) (outPos i)

/-- An output element is its place in its chunk. -/
theorem out_emb (i : S2x128x512.Idx) : (outRect (outChunk i)).emb (outPos i) = i := by
  have h0 : (i 0).val < 2 := (i 0).isLt
  have h1 : (i 1).val < 128 := (i 1).isLt
  funext a
  refine Fin.ext ?_
  fin_cases a
  · show (8 * (i 0).val + (i 1).val / 16) / 8 + 1 * 0 = (i 0).val; omega
  · show 16 * ((8 * (i 0).val + (i 1).val / 16) % 8) + 1 * ((i 1).val % 16) = (i 1).val; omega
  · show 0 + 1 * (i 2).val = (i 2).val; omega

/-- Different chunks of the output are apart. -/
theorem out_disjoint (j k : Fin 16) (h : j ≠ k) : Disjoint (oM.view.slice (outRect j)).set ((oM.view.slice (outRect k)).setOn Finset.univ) := by
  rw [View.setOn_univ, View.set_slice, View.set_slice, Finset.disjoint_map]
  rw [Finset.disjoint_left]
  intro i hj hk
  rw [← Rect.map_emb_univ, Finset.mem_map] at hj hk
  obtain ⟨y, -, rfl⟩ := hj
  obtain ⟨z, -, hz⟩ := hk
  have e0 : k.val / 8 + 1 * (z 0).val = j.val / 8 + 1 * (y 0).val := congrArg (fun i : S2x128x512.Idx => (i 0).val) hz
  have e1 : 16 * (k.val % 8) + 1 * (z 1).val = 16 * (j.val % 8) + 1 * (y 1).val := congrArg (fun i : S2x128x512.Idx => (i 1).val) hz
  have hy0 : (y 0).val < 1 := (y 0).isLt
  have hz0 : (z 0).val < 1 := (z 0).isLt
  have hy1 : (y 1).val < 16 := (y 1).isLt
  have hz1 : (z 1).val < 16 := (z 1).isLt
  exact h (Fin.ext (by omega))

/-- The output buffer with its first `n` chunks final. -/
def outInv (c : Dev nD) (n : ℕ) : sProp 𝕄 :=
  iprop(∃ f : Buf (Elt F) ((c : Thread nD τ).loc cc0_stg0_0),
    ⌜∀ j : Fin 16, j.val < n → (oM.access (outRect j)).read (Elt F) f = packO (chunkAt m 3 c j)⌝
      ∗ (((c : Thread nD τ).loc cc0_stg0_0) ↦{fullShare} f))

/-- With every chunk final it is the result. -/
theorem out_full (c : Dev nD) : outInv m c 16 ⊢ (((c : Thread nD τ).loc cc0_stg0_0) ↦{fullShare} outC m c : sProp 𝕄) := by
  unfold outInv
  iintro ⟨%f, %hf, H⟩
  have e : f = outC m c := by
    funext i
    have := congrFun (hf (outChunk i) (outChunk i).isLt) (outPos i)
    refine Eq.trans ?_ this
    show f i = (oM.access (outRect (outChunk i))).read (Elt F) f (outPos i)
    have e2 : (oM.access (outRect (outChunk i))).read (Elt F) f (outPos i) = f ((outRect (outChunk i)).emb (outPos i)) := rfl
    rw [e2, out_emb]
  rw [← e]; iexact H

/-! ## The loops -/

/-- Sending `n` chunks of one batch. -/
theorem wp_firsts (K : Dev nD × CK → ℕ) (c : Dev nD) (P : FVec F S128x512 .f32) {Q : PUnit → sProp 𝕄} {k : KProg F} :
    ∀ (n q : ℕ) (h : q + n ≤ 48),
      (∀ q' : Fin 48, q ≤ q'.val → q'.val < q + n → packS (rowsOf P ⟨q'.val % 8, Nat.mod_lt _ (by decide)⟩) = slotV m c q') →
      iprop(records m K ∗ Core (F := F) c q 0) ⊢ iprop((Core c (q + n) 0 -∗ WP c k Q) -∗ WP c (firsts c P k n q h) Q)
  | 0, q, h, _ => by
    iintro ⟨-, HC⟩ Hk; iapply Hk; iexact HC
  | n + 1, q, h, hv => by
    unfold firsts
    iintro ⟨#HR, HC⟩ Hk
    iapply (wp_sendQ m K c ⟨q, _⟩ 0 (Nat.zero_le _) _ (hv ⟨q, _⟩ le_rfl (by show q < q + (n + 1); omega))) $$ [HC]
    · isplitr; · iexact HR
      iexact HC
    iintro HC
    iapply (wp_firsts K c P n (q + 1) _ fun q' h1 h2 => hv q' (by omega) (by omega)) $$ [HC]
    · isplitr; · iexact HR
      iexact HC
    rw [show q + 1 + n = q + (n + 1) by omega]
    iexact Hk

/-- The chunks before step `q` of the middle. -/
def midA (c : Dev nD) (q : ℕ) : Fin 16 → FVec F S16x512 .f32 := fun j => chunkAt m ((q + 15 - j.val) / 16) c j

/-- A step's chunk before the step. -/
theorem midA_at (c : Dev nD) (q : Fin 48) : midA m c q.val (chunkOf q) = chunkAt m (q.val / 16) c (chunkOf q) := by
  unfold midA; rw [show (q.val + 15 - (chunkOf q).val) / 16 = q.val / 16 by show (q.val + 15 - q.val % 16) / 16 = _; omega]

/-- What a step makes of its chunk. -/
theorem add_at (c : Dev nD) (q : Fin 48) :
    addR (midA m c q.val (chunkOf q)) (slotV m (peer c q) q) = chunkAt m (q.val / 16 + 1) c (chunkOf q) := by
  rw [midA_at]
  show _ = addR (chunkAt m (q.val / 16) c (chunkOf q)) (packS (chunkAt m (q.val / 16) (pal c (maskAt (q.val / 16) (chunkOf q))) (chunkOf q)))
  have e : maskAt (q.val / 16) (chunkOf q) = maskOf q := Fin.ext (by show (16 * (q.val / 16) + q.val % 16) % 3 = q.val % 3; rw [Nat.div_add_mod])
  rw [e]; rfl

/-- A step moves the middle's chunks on. -/
theorem midA_step (c : Dev nD) (q : Fin 48) : bump (midA m c q.val) (chunkOf q) (slotV m (peer c q) q) = midA m c (q.val + 1) := by
  funext j
  unfold bump
  by_cases h : j.val = (chunkOf q).val
  · rw [if_pos h, add_at]
    obtain rfl : j = chunkOf q := Fin.ext h
    unfold midA
    rw [show (q.val + 1 + 15 - (chunkOf q).val) / 16 = q.val / 16 + 1 by show (q.val + 1 + 15 - q.val % 16) / 16 = _; omega]
  · rw [if_neg h]
    have h' : j.val ≠ q.val % 16 := h
    unfold midA
    rw [show (q.val + 1 + 15 - j.val) / 16 = (q.val + 15 - j.val) / 16 by omega]

/-- The middle. -/
theorem wp_rounds (K : Dev nD × CK → ℕ) (c : Dev nD) {Q : PUnit → sProp 𝕄} {k : (Fin 16 → FVec F S16x512 .f32) → KProg F} :
    ∀ (n q : ℕ) (h : q + 16 + n ≤ 48),
      iprop(records m K ∗ levAts L lv ∗ Core (F := F) c (q + 16) q)
        ⊢ iprop((Core c (q + n + 16) (q + n) -∗ WP c (k (midA m c (q + n))) Q) -∗ WP c (rounds c k n q h (midA m c q)) Q)
  | 0, q, h => by
    iintro ⟨-, -, HC⟩ Hk; iapply Hk; iexact HC
  | n + 1, q, h => by
    unfold rounds
    iintro ⟨#HR, #Hlev, HC⟩ Hk
    iapply (wp_waitQ m K c ⟨q, _⟩ (q + 16) (by show q < q + 16; omega)) $$ [HC]
    · isplitr; · iexact HR
      isplitr; · iexact Hlev
      iexact HC
    iintro HC
    iapply (wp_sendQ m K c ⟨q + 16, _⟩ (q + 1) (by show q + 1 ≤ q + 16; omega) _ (by
      rw [add_at m c ⟨q, by omega⟩]
      show packS _ = packS (chunkAt m ((q + 16) / 16) c (chunkOf ⟨q + 16, _⟩))
      have e : (chunkOf ⟨q + 16, by omega⟩ : Fin 16) = chunkOf ⟨q, by omega⟩ := Fin.ext (by show (q + 16) % 16 = q % 16; omega)
      rw [e, show (q + 16) / 16 = q / 16 + 1 by omega])) $$ [HC]
    · isplitr; · iexact HR
      iexact HC
    iintro HC
    rw [midA_step m c ⟨q, by omega⟩]
    iapply (wp_rounds K c n (q + 1) _) $$ [HC]
    · isplitr; · iexact HR
      isplitr; · iexact Hlev
      rw [show q + 1 + 16 = q + 16 + 1 by omega]
      iexact HC
    rw [show q + 1 + n = q + (n + 1) by omega]
    iexact Hk

/-- Storing a chunk of the output. -/
theorem wp_outQ (c : Dev nD) (k : Fin 16) (v : FVec F S1x16x512 .bf16) (hv : v = packO (chunkAt m 3 c k))
    {Q : PUnit → sProp 𝕄} {p : KProg F} :
    outInv m c k.val ⊢ iprop((outInv m c (k.val + 1) -∗ WP c p Q) -∗ WP c (outQ oM (Memref.isWhole_whole _) k v p) Q) := by
  subst hv
  unfold outQ
  iintro H Hk
  unfold outInv
  icases H with ⟨%f, %hf, H⟩
  iapply (wp_load 𝒱₀ (c : Thread nD τ) none Set.univ (m := oM) (Finset.subset_univ _)) $$ H; iintro H
  iapply (wp_store 𝒱₀ (c : Thread nD τ) none Set.univ (m := oM) (r := outRect k) (Mk := Finset.univ) (Finset.subset_univ _)) $$ H; iintro H
  iapply Hk
  iexists ((oM.access (outRect k)).write (Elt F) f (packO (chunkAt m 3 c k)) Finset.univ)
  isplitr
  · ipureintro
    intro j hj
    by_cases e : j = k
    · subst e; exact View.read_write_univ _ _
    · refine (View.read_slice_write_slice_of_disjoint (v := oM.view) (Val := Elt F) (outRect j) (outRect k) f _ Finset.univ (out_disjoint j k e)).trans ?_
      exact hf j (by have : j.val ≠ k.val := fun h => e (Fin.ext h); omega)
  · iexact H

/-- The end. -/
theorem wp_lasts (K : Dev nD × CK → ℕ) (c : Dev nD) {Q : PUnit → sProp 𝕄} :
    ∀ (n q : ℕ) (h : q + n ≤ 48), q + n = 48 → 32 ≤ q →
      iprop(records m K ∗ levAts L lv ∗ Core (F := F) c 48 q ∗ outInv m c (q - 32))
        ⊢ iprop((Core c 48 48 ∗ outInv m c 16 -∗ Q ⟨⟩) -∗ WP c (lasts oM (Memref.isWhole_whole _) (midA m c 32) n q h) Q)
  | 0, q, h, e, _ => by
    obtain rfl : q = 48 := by omega
    unfold lasts
    iintro ⟨-, -, HC, Ho⟩ Hk
    unfold WP
    rw [wp_ret]; imodintro
    iapply Hk
    isplitl [HC] <;> iassumption
  | n + 1, q, h, e, h32 => by
    unfold lasts
    iintro ⟨#HR, #Hlev, HC, Ho⟩ Hk
    iapply (wp_waitQ m K c ⟨q, _⟩ 48 (by show q < 48; omega)) $$ [HC]
    · isplitr; · iexact HR
      isplitr; · iexact Hlev
      iexact HC
    iintro HC
    have hk : (chunkOf ⟨q, by omega⟩ : Fin 16).val = q - 32 := by show q % 16 = q - 32; omega
    have hA : midA m c 32 (chunkOf ⟨q, by omega⟩) = midA m c q (chunkOf ⟨q, by omega⟩) := by
      unfold midA
      rw [hk, show (32 + 15 - (q - 32)) / 16 = (q + 15 - (q - 32)) / 16 by omega]
    iapply (wp_outQ m c (chunkOf ⟨q, _⟩) _ (by
      rw [hA, add_at m c ⟨q, by omega⟩]
      show packO (chunkAt m (q / 16 + 1) c _) = _
      rw [show q / 16 + 1 = 3 by omega])) $$ [Ho]
    · rw [hk]; iexact Ho
    rw [hk]
    iintro Ho
    iapply (wp_lasts K c n (q + 1) _ (by omega) (by omega)) $$ [HC Ho]
    · isplitr; · iexact HR
      isplitr; · iexact Hlev
      isplitl [HC]; · iexact HC
      rw [show q + 1 - 32 = q - 32 + 1 by omega]; iexact Ho
    iexact Hk

/-! ## The barrier -/

/-- A separating product over three. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A device's receive slots, as its three signals hand them over. -/
theorem give_slots (c : Dev nD) :
    (bigSep Finset.univ fun q : Fin 48 => iprop(∃ f, rPts (F := F) c q f)) = bigSep Finset.univ fun i : Fin 3 => barPay (F := F) (pal c i) i := by
  rw [← by_mask (fun q _ => iprop(∃ f, rPts (F := F) c q f))]
  refine bigSep_congr fun i _ => ?_
  unfold barPay; rw [pal_pal]

/-- What the barrier hands over: every partner's slots. -/
theorem got_slots (c : Dev nD) :
    (bigSep Finset.univ fun i : Fin 3 => barPay (F := F) c i) = bigSep Finset.univ fun q : Fin 48 => iprop(∃ f, rPts (F := F) (peer c q) q f) :=
  by_mask (fun q i => iprop(∃ f, rPts (F := F) (pal c i) q f))

/-- The signal to partner `i`. -/
theorem wp_barSignal (K : Dev nD × CK → ℕ) (c : Dev nD) (i : Fin 3) {O O' : CellTallies nD τ sig Unit}
    (hO : O' = O + tallyAt (barCell (pal c i)) () 1) {Q : PUnit → sProp 𝕄} {k : PUnit → KProg F} :
    iprop(records m K ∗ (∃ W, owes (c : Thread nD τ) O' W) ∗ dutyTok ER (barCell (pal c i)) 0 i ∗ barPay (F := F) (pal c i) i)
      ⊢ iprop(((∃ W, owes (c : Thread nD τ) O W) -∗ WP c (k ⟨⟩) Q)
        -∗ WP c (.op (.semSignal ((pal c i : Dev nD) : Thread nD τ) barS (1#32).toInt) k) Q) := by
  iintro ⟨#HR, ⟨%W, HO⟩, Ht, Hp⟩ Hk
  ihave #HI := (inv_at m K (pal c i, .inl ())) $$ HR
  ihave #Hr := (reached_at m K (pal c i, .inl ())) $$ HR
  iapply (Rounds.wp_signal 𝒱₀ ER (Rd m) (c : Thread nD τ) none (dst := (pal c i : Thread nD τ)) (κ := K (pal c i, .inl ()))
      (d := i) (by rw [duties_bar]; exact Finset.mem_univ _) ((amount_bar m (pal c i) i).trans (by decide)) () O hO) $$ [HO Ht Hp]
  · isplitr; · iexact HI
    isplitl [HO]; · iexact HO
    isplitl [Ht]; · iexact Ht
    isplitl [Hp]; · rw [payload_bar]; iexact Hp
    iexact Hr
  iintro HO
  iapply Hk; iexists W; iexact HO

/-- The barrier's wait: every partner's slots, and its cell at zero. -/
theorem wp_barWait (K : Dev nD × CK → ℕ) (c : Dev nD) {Q : PUnit → sProp 𝕄} {k : PUnit → KProg F} :
    iprop(records m K ∗ levAts L lv ∗ cred (tallyAt (barCell c) () 3) ∗ atPos ER (barCell c) 0 ∅ 0 ∗ (∃ W, owes (c : Thread nD τ) (Owe c 0) W))
      ⊢ iprop(((bigSep Finset.univ fun q : Fin 48 => iprop(∃ f, rPts (F := F) (peer c q) q f)) ∗ semVal (barCell c) 0
          ∗ (∃ W, owes (c : Thread nD τ) (Owe c 0) W) -∗ WP c (k ⟨⟩) Q)
        -∗ WP c (.op (.semWait barS (3#32).toInt) k) Q) := by
  iintro ⟨#HR, #Hlev, Hc, Ha, ⟨%W, HO⟩⟩ Hk
  ihave #HI := (inv_at m K (c, .inl ())) $$ HR
  iapply (Rounds.wp_wait_rest_token 𝒱₀ ER (Rd m) (c : Thread nD τ) none (κ := K (c, .inl ()))
      (wpE_semWait_eq 𝒱₀ (c : Thread nD τ) none Set.univ) (Set.mem_univ _) () (O := Owe c 0) (W := W) (R := 0) (m := 0) (T := ∅)
      (by rw [expect_bar]; decide)) $$ [Hc HO Ha]
  · isplitr; · iexact HI
    isplitl [Hc]; · iexact Hc
    isplitl [HO]; · iexact HO
    isplitr; · iapply (mayWait_owe c (.reg barS) 0 (by show 1 < 2 + 0; omega)); iexact Hlev
    iexact Ha
  iintro ⟨HO, Ha, -, Hpay⟩
  ihave Hp := (Entails.of_eq ((rest_bar m c).trans (got_slots c))) $$ Hpay
  imod (Rounds.cell_close ER (Rd m) (Set.mem_univ (K (c, .inl ()))) (fun h => h) (R := 0 + 1) (duties_later m (barCell c))) $$ [Ha] with Hz
  · isplitr; · iexact HI
    iexact Ha
  iapply Hk
  isplitl [Hp]; · iexact Hp
  isplitl [Hz]; · iexact Hz
  iexists _; iexact HO

/-! ## The whole kernel -/

/-- A load's source and scratch before it starts. -/
def ldIn {s : Shape} (c : Dev nD) (src : Memref sig .tc .hbm s .f32) (dst : Memref sig .tc .vmem s .f32)
    (fs : Buf (Elt F) (src.view.loc (c : Thread nD τ))) : sProp 𝕄 :=
  iprop((src.view.loc (c : Thread nD τ) ↦[src.view.set]{fullShare} fs) ∗ (∃ fd, dst.view.loc (c : Thread nD τ) ↦[dst.view.set]{fullShare} fd))

/-- The five loads' sources and scratches. -/
def loadsIn (c : Dev nD) : sProp 𝕄 :=
  iprop(ldIn c (Memref.whole main_arg0) xM (m ((c : Thread nD τ).loc main_arg0))
    ∗ ldIn c (Memref.whole main_arg1) wqM (m ((c : Thread nD τ).loc main_arg1))
    ∗ ldIn c (kvCols c (Memref.whole main_arg2)) wkM (m ((c : Thread nD τ).loc main_arg2))
    ∗ ldIn c (kvCols c (Memref.whole main_arg3)) wvM (m ((c : Thread nD τ).loc main_arg3))
    ∗ ldIn c (Memref.whole main_arg4) woM (m ((c : Thread nD τ).loc main_arg4)))

/-- The same after the loads: the scratches hold what they were loaded with. -/
def loadsOut (c : Dev nD) : sProp 𝕄 :=
  iprop(ldPay (F := F) c (Memref.whole main_arg0) xM (m ((c : Thread nD τ).loc main_arg0))
    ∗ ldPay (F := F) c (Memref.whole main_arg1) wqM (m ((c : Thread nD τ).loc main_arg1))
    ∗ ldPay (F := F) c (kvCols c (Memref.whole main_arg2)) wkM (m ((c : Thread nD τ).loc main_arg2))
    ∗ ldPay (F := F) c (kvCols c (Memref.whole main_arg3)) wvM (m ((c : Thread nD τ).loc main_arg3))
    ∗ ldPay (F := F) c (Memref.whole main_arg4) woM (m ((c : Thread nD τ).loc main_arg4)))

/-- A slot before the barrier: as `unsent`, the partner's receive slot still to come. -/
def ready (c : Dev nD) (q : Fin 48) : sProp 𝕄 :=
  iprop((∃ f, sPts (F := F) c q f) ∗ dutyTok ER (sendCell c q) 0 0 ∗ dutyTok ER (recvCell (peer c q) q) 0 0
    ∗ atPos ER (sendCell c q) 0 ∅ 0 ∗ atPos ER (recvCell c q) 0 ∅ 0 ∗ cred (tallyAt (recvCell c q) () N))

/-- A slot is ready to be sent: the partner's receive slot, and one's own send slot with its tokens. -/
theorem unsent_intro (c : Dev nD) (q : Fin 48) : iprop((∃ f, rPts (F := F) (peer c q) q f) ∗ ready (F := F) c q) ⊢ unsent (F := F) c q := by
  unfold ready unsent
  iintro ⟨H, Hs, Hr⟩
  isplitl [Hs]; · iexact Hs
  isplitl [H]; · iexact H
  iexact Hr

/-- With the partners' slots every slot is ready to be sent. -/
theorem St_intro (c : Dev nD) :
    iprop((bigSep Finset.univ fun q : Fin 48 => iprop(∃ f, rPts (F := F) (peer c q) q f)) ∗ bigSep Finset.univ fun q : Fin 48 => ready (F := F) c q)
      ⊢ St (F := F) c 0 0 := by
  rw [← bigSep_sep']
  unfold St
  refine bigSep_mono fun q _ => ?_
  rw [if_neg (Nat.not_lt_zero _), if_neg (Nat.not_lt_zero _)]
  exact unsent_intro c q

/-- What is left of the semaphores after the run: every cell at zero. -/
def zeros (c : Dev nD) : sProp 𝕄 :=
  iprop(semVal (loadCell c 0) 0 ∗ semVal (loadCell c 1) 0 ∗ semVal (loadCell c 2) 0 ∗ semVal (loadCell c 3) 0 ∗ semVal (loadCell c 4) 0)

/-- What a device's run starts from. -/
def runPre (c : Dev nD) : sProp 𝕄 :=
  iprop(levAts L lv
    ∗ (cred (tallyAt (barCell c) () 3) ∗ atPos ER (barCell c) 0 ∅ 0)
    ∗ (dutyTok ER (barCell (pal c 0)) 0 0 ∗ dutyTok ER (barCell (pal c 1)) 0 1 ∗ dutyTok ER (barCell (pal c 2)) 0 2)
    ∗ (ldSt (F := F) c 0 ∗ ldSt (F := F) c 1 ∗ ldSt (F := F) c 2 ∗ ldSt (F := F) c 3 ∗ ldSt (F := F) c 4)
    ∗ loadsIn m c
    ∗ (bigSep Finset.univ fun q : Fin 48 => ready (F := F) c q)
    ∗ (bigSep Finset.univ fun q : Fin 48 => iprop(∃ f, rPts (F := F) c q f)))

/-- What it ends with. -/
def runPost (c : Dev nD) : sProp 𝕄 :=
  iprop(semVal (barCell c) 0 ∗ zeros (F := F) c ∗ loadsOut m c ∗ St (F := F) c 48 48)

/-- The zero offset in two axes. -/
theorem hz2 : (![0, 0] : Fin 2 → Nat) = fun _ => 0 := funext fun a => by fin_cases a <;> rfl

/-- The zero offset in three axes. -/
theorem hz3 : (![0, 0, 0] : Fin 3 → Nat) = fun _ => 0 := funext fun a => by fin_cases a <;> rfl

/-- Loading the whole scratch of the tokens reads it. -/
theorem read_x (f : (cc0_scratch0 : Ref sig .tc).ty.Contents (Elt F)) :
    xM.view.readAt (Elt F) (Rect.unit (s := S2x128x512) ![0, 0, 0] S2x128x512.size inb_S2x128x512_S2x128x512_0_0_0).toLoadRect f = xM.view.read (Elt F) f :=
  (Memref.readAt_unit_zero (Elt F) cc0_scratch0 hz3 _ f).trans (View.read_whole cc0_scratch0 f).symm

/-- Loading the whole scratch of the query weights reads it. -/
theorem read_wq (f : (cc0_scratch1 : Ref sig .tc).ty.Contents (Elt F)) :
    wqM.view.readAt (Elt F) (Rect.unit (s := S512x512) ![0, 0] S512x512.size inb_S512x512_S512x512_0_0).toLoadRect f = wqM.view.read (Elt F) f :=
  (Memref.readAt_unit_zero (Elt F) cc0_scratch1 hz2 _ f).trans (View.read_whole cc0_scratch1 f).symm

/-- Loading the whole scratch of the output weights reads it. -/
theorem read_wo (f : (cc0_scratch2 : Ref sig .tc).ty.Contents (Elt F)) :
    woM.view.readAt (Elt F) (Rect.unit (s := S512x512) ![0, 0] S512x512.size inb_S512x512_S512x512_0_0).toLoadRect f = woM.view.read (Elt F) f :=
  (Memref.readAt_unit_zero (Elt F) cc0_scratch2 hz2 _ f).trans (View.read_whole cc0_scratch2 f).symm

/-- Loading the whole scratch of the key weights reads it. -/
theorem read_wk (f : (cc0_scratch3 : Ref sig .tc).ty.Contents (Elt F)) :
    wkM.view.readAt (Elt F) (Rect.unit (s := S512x128) ![0, 0] S512x128.size inb_S512x128_S512x128_0_0).toLoadRect f = wkM.view.read (Elt F) f :=
  (Memref.readAt_unit_zero (Elt F) cc0_scratch3 hz2 _ f).trans (View.read_whole cc0_scratch3 f).symm

/-- Loading the whole scratch of the value weights reads it. -/
theorem read_wv (f : (cc0_scratch4 : Ref sig .tc).ty.Contents (Elt F)) :
    wvM.view.readAt (Elt F) (Rect.unit (s := S512x128) ![0, 0] S512x128.size inb_S512x128_S512x128_0_0).toLoadRect f = wvM.view.read (Elt F) f :=
  (Memref.readAt_unit_zero (Elt F) cc0_scratch4 hz2 _ f).trans (View.read_whole cc0_scratch4 f).symm

/-- Reading a loaded scratch whole gives the source's contents; the load's holdings stay. -/
theorem wp_ldRead {s : Shape} (c : Dev nD) (src : Memref sig .tc .hbm s .f32) (dst : Memref sig .tc .vmem s .f32)
    (fs : Buf (Elt F) (src.view.loc (c : Thread nD τ))) (r : LoadRect s) (hr : dst.view.setOn r.set ⊆ dst.view.set) {hl : dst.view.LoadsAt r}
    (v : r.shape.Idx → Elt F .f32)
    (hv : ∀ f, dst.view.read (Elt F) f = src.view.read (Elt F) fs → dst.view.readAt (Elt F) r f = v)
    {Q : PUnit → sProp 𝕄} {k : (r.shape.Idx → Elt F .f32) → KProg F} :
    ldPay (F := F) c src dst fs ⊢ iprop((ldPay c src dst fs -∗ WP c (k v) Q) -∗ WP c (.op (.load dst r hl) k) Q) := by
  unfold ldPay
  iintro ⟨⟨%f, %hf, H⟩, Hs⟩ Hk
  iapply (wp_load 𝒱₀ (c : Thread nD τ) none Set.univ (m := dst) hr) $$ H; iintro H
  rw [hv f hf]
  iapply Hk
  isplitl [H]
  · iexists f; isplitr; · ipureintro; exact hf
    iexact H
  · iexact Hs

/-- After the barrier: the copies and the output. -/
theorem wp_comm (K : Dev nD × CK → ℕ) (c : Dev nD) {Q : PUnit → sProp 𝕄} :
    iprop(records m K ∗ levAts L lv ∗ Core (F := F) c 0 0 ∗ outInv m c 0 ∗ ldPay (F := F) c (Memref.whole main_arg4) woM (m ((c : Thread nD τ).loc main_arg4)))
      ⊢ iprop((Core c 48 48 ∗ outInv m c 16 ∗ ldPay (F := F) c (Memref.whole main_arg4) woM (m ((c : Thread nD τ).loc main_arg4)) -∗ Q ⟨⟩)
        -∗ WP c (comm oM (Memref.isWhole_whole _) c (xv m c) (wqv m c) (wkv m c) (wvv m c) (wov m c)) Q) := by
  unfold comm
  iintro ⟨#HR, #Hlev, HC, Ho, H4⟩ Hk
  iapply (wp_firsts m K c _ 8 0 _ fun q h1 h2 => by
    show _ = packS (chunkAt m (q.val / 16) c (chunkOf q))
    rw [show q.val / 16 = 0 by omega]
    show _ = packS (chunks (part m c 0) (part m c 1) (chunkOf q))
    unfold chunks
    rw [if_pos (show q.val % 16 < 8 by omega)]
    have e : (⟨q.val % 8, Nat.mod_lt _ (by decide)⟩ : Fin 8) = ⟨(chunkOf q).val % 8, Nat.mod_lt _ (by decide)⟩ :=
      Fin.ext (by show q.val % 8 = q.val % 16 % 8; omega)
    rw [e]; rfl) $$ [HC]
  · isplitr; · iexact HR
    iexact HC
  iintro HC
  iapply (wp_ldRead c (Memref.whole main_arg4) woM (m ((c : Thread nD τ).loc main_arg4)) _ (Finset.map_subset_map.mpr (Finset.subset_univ _)) (wov m c)
    fun f hf => (read_wo f).trans hf) $$ [H4]
  · iexact H4
  iintro H4
  iapply (wp_firsts m K c _ 8 8 _ fun q h1 h2 => by
    show _ = packS (chunkAt m (q.val / 16) c (chunkOf q))
    rw [show q.val / 16 = 0 by omega]
    show _ = packS (chunks (part m c 0) (part m c 1) (chunkOf q))
    unfold chunks
    rw [if_neg (show ¬ q.val % 16 < 8 by omega)]
    have e : (⟨q.val % 8, Nat.mod_lt _ (by decide)⟩ : Fin 8) = ⟨(chunkOf q).val % 8, Nat.mod_lt _ (by decide)⟩ :=
      Fin.ext (by show q.val % 8 = q.val % 16 % 8; omega)
    rw [e]; rfl) $$ [HC]
  · isplitr; · iexact HR
    iexact HC
  iintro HC
  have e0 : chunks (partialOf (xv m c) (wqv m c) (wkv m c) (wvv m c) (wov m c) 0) (partialOf (xv m c) (wqv m c) (wkv m c) (wvv m c) (wov m c) 1)
      = midA m c 0 := by
    funext j
    unfold midA
    rw [show (0 + 15 - j.val) / 16 = 0 by omega]; rfl
  rw [e0]
  iapply (wp_rounds m K c 32 0 _) $$ [HC]
  · isplitr; · iexact HR
    isplitr; · iexact Hlev
    iexact HC
  iintro HC
  iapply (wp_lasts m K c 16 32 _ (by omega) (by omega)) $$ [HC Ho]
  · isplitr; · iexact HR
    isplitr; · iexact Hlev
    isplitl [HC]; · iexact HC
    iexact Ho
  iintro ⟨HC, Ho⟩
  iapply Hk
  isplitl [HC]; · iexact HC
  isplitl [Ho] <;> iassumption

set_option maxHeartbeats 800000 in
/-- The run of the kernel on device `c`. -/
theorem wp_body (K : Dev nD × CK → ℕ) (c : Dev nD) {Q : PUnit → sProp 𝕄} :
    iprop(records m K ∗ runPre m c ∗ (∃ W, owes (c : Thread nD τ) (O₀ c) W) ∗ outInv m c 0)
      ⊢ iprop((runPost m c ∗ (∃ W, owes (c : Thread nD τ) 0 W) ∗ outInv m c 16 -∗ Q ⟨⟩)
        -∗ WP c (bodyM oM (Memref.isWhole_whole _)) Q) := by
  unfold bodyM runPre loadsIn ldIn
  simp only [wp_deviceId]
  iintro ⟨#HR, ⟨#Hlev, ⟨HcB, HaB⟩, ⟨Ht0, Ht1, Ht2⟩, ⟨L0, L1, L2, L3, L4⟩, ⟨⟨S0, D0⟩, ⟨S1, D1⟩, ⟨S2, D2⟩, ⟨S3, D3⟩, ⟨S4, D4⟩⟩, Hready, Hrecv⟩, HO, Hout⟩ Hk
  iapply (wp_fetch m K c 0 _ _ _ ⟨rfl, rfl⟩) $$ [L0 S0 D0]
  · isplitr; · iexact HR
    isplitl [L0]; · iexact L0
    isplitl [S0] <;> iassumption
  iintro L0
  iapply (wp_fetch m K c 1 _ _ _ ⟨rfl, rfl⟩) $$ [L1 S1 D1]
  · isplitr; · iexact HR
    isplitl [L1]; · iexact L1
    isplitl [S1] <;> iassumption
  iintro L1
  iapply (wp_fetch m K c 2 _ _ _ ⟨rfl, rfl⟩) $$ [L2 S2 D2]
  · isplitr; · iexact HR
    isplitl [L2]; · iexact L2
    isplitl [S2] <;> iassumption
  iintro L2
  iapply (wp_fetch m K c 3 _ _ _ ⟨rfl, rfl⟩) $$ [L3 S3 D3]
  · isplitr; · iexact HR
    isplitl [L3]; · iexact L3
    isplitl [S3] <;> iassumption
  iintro L3
  iapply (wp_fetch m K c 4 _ _ _ ⟨rfl, rfl⟩) $$ [L4 S4 D4]
  · isplitr; · iexact HR
    isplitl [L4]; · iexact L4
    isplitl [S4] <;> iassumption
  iintro L4
  ihave Hg := (Entails.of_eq ((give_slots (F := F) c).trans (bigSep_fin3 _))) $$ Hrecv
  icases Hg with ⟨P0, P1, P2⟩
  iapply (wp_barSignal m K c 0 (O := O₁ c) rfl) $$ [HO Ht0 P0]
  · isplitr; · iexact HR
    isplitl [HO]; · iexact HO
    isplitl [Ht0] <;> iassumption
  iintro HO
  iapply (wp_barSignal m K c 1 (O := O₂ c) rfl) $$ [HO Ht1 P1]
  · isplitr; · iexact HR
    isplitl [HO]; · iexact HO
    isplitl [Ht1] <;> iassumption
  iintro HO
  iapply (wp_barSignal m K c 2 (O := Owe c 0) rfl) $$ [HO Ht2 P2]
  · isplitr; · iexact HR
    isplitl [HO]; · iexact HO
    isplitl [Ht2] <;> iassumption
  iintro HO
  iapply (wp_await m K c 0 _ _ (m ((c : Thread nD τ).loc main_arg0)) ⟨rfl, rfl⟩) $$ [L0 HO]
  · isplitr; · iexact HR
    isplitr; · iexact Hlev
    isplitl [L0] <;> iassumption
  iintro ⟨L0, Z0, HO⟩
  iapply (wp_await m K c 1 _ _ (m ((c : Thread nD τ).loc main_arg1)) ⟨rfl, rfl⟩) $$ [L1 HO]
  · isplitr; · iexact HR
    isplitr; · iexact Hlev
    isplitl [L1] <;> iassumption
  iintro ⟨L1, Z1, HO⟩
  iapply (wp_ldRead c (Memref.whole main_arg0) xM (m ((c : Thread nD τ).loc main_arg0)) _ (Finset.map_subset_map.mpr (Finset.subset_univ _)) (xv m c)
    fun f hf => (read_x f).trans hf) $$ [L0]
  · iexact L0
  iintro L0
  iapply (wp_ldRead c (Memref.whole main_arg1) wqM (m ((c : Thread nD τ).loc main_arg1)) _ (Finset.map_subset_map.mpr (Finset.subset_univ _)) (wqv m c)
    fun f hf => (read_wq f).trans hf) $$ [L1]
  · iexact L1
  iintro L1
  iapply (wp_await m K c 2 _ _ (m ((c : Thread nD τ).loc main_arg2)) ⟨rfl, rfl⟩) $$ [L2 HO]
  · isplitr; · iexact HR
    isplitr; · iexact Hlev
    isplitl [L2] <;> iassumption
  iintro ⟨L2, Z2, HO⟩
  iapply (wp_await m K c 3 _ _ (m ((c : Thread nD τ).loc main_arg3)) ⟨rfl, rfl⟩) $$ [L3 HO]
  · isplitr; · iexact HR
    isplitr; · iexact Hlev
    isplitl [L3] <;> iassumption
  iintro ⟨L3, Z3, HO⟩
  iapply (wp_ldRead c (kvCols c (Memref.whole main_arg2)) wkM (m ((c : Thread nD τ).loc main_arg2)) _ (Finset.map_subset_map.mpr (Finset.subset_univ _)) (wkv m c)
    fun f hf => (read_wk f).trans hf) $$ [L2]
  · iexact L2
  iintro L2
  iapply (wp_ldRead c (kvCols c (Memref.whole main_arg3)) wvM (m ((c : Thread nD τ).loc main_arg3)) _ (Finset.map_subset_map.mpr (Finset.subset_univ _)) (wvv m c)
    fun f hf => (read_wv f).trans hf) $$ [L3]
  · iexact L3
  iintro L3
  iapply (wp_await m K c 4 _ _ (m ((c : Thread nD τ).loc main_arg4)) ⟨rfl, rfl⟩) $$ [L4 HO]
  · isplitr; · iexact HR
    isplitr; · iexact Hlev
    isplitl [L4] <;> iassumption
  iintro ⟨L4, Z4, HO⟩
  iapply (wp_ldRead c (Memref.whole main_arg4) woM (m ((c : Thread nD τ).loc main_arg4)) _ (Finset.map_subset_map.mpr (Finset.subset_univ _)) (wov m c)
    fun f hf => (read_wo f).trans hf) $$ [L4]
  · iexact L4
  iintro L4
  iapply (wp_barWait m K c) $$ [HcB HaB HO]
  · isplitr; · iexact HR
    isplitr; · iexact Hlev
    isplitl [HcB]; · iexact HcB
    isplitl [HaB] <;> iassumption
  iintro ⟨Hpeers, ZB, HO⟩
  ihave HSt := (St_intro (F := F) c) $$ [Hpeers Hready]
  · isplitl [Hpeers] <;> iassumption
  iapply (wp_comm m K c) $$ [HSt HO Hout L4]
  · isplitr; · iexact HR
    isplitr; · iexact Hlev
    isplitl [HSt HO]
    · unfold Core; isplitl [HSt] <;> iassumption
    isplitl [Hout] <;> iassumption
  iintro ⟨HC, Hout, L4⟩
  unfold Core
  icases HC with ⟨HSt, HO⟩
  iapply Hk
  isplitl [ZB Z0 Z1 Z2 Z3 Z4 L0 L1 L2 L3 L4 HSt]
  · unfold runPost zeros loadsOut
    isplitl [ZB]; · iexact ZB
    isplitl [Z0 Z1 Z2 Z3 Z4]
    · isplitl [Z0]; · iexact Z0
      isplitl [Z1]; · iexact Z1
      isplitl [Z2]; · iexact Z2
      isplitl [Z3] <;> iassumption
    isplitl [L0 L1 L2 L3 L4]
    · isplitl [L0]; · iexact L0
      isplitl [L1]; · iexact L1
      isplitl [L2]; · iexact L2
      isplitl [L3] <;> iassumption
    iexact HSt
  isplitl [HO]
  · rw [← Owe_end c]; iexact HO
  iexact Hout

end Cert.KernelIdeal.Fly

end
-- ==== Proof.Deal.lean ====
module

public import proofs.«01_k».proof.Proof.Body

/-!
# The launch's ghost state

The cells' invariants allocated for all devices at once, the duty tokens dealt to the devices that pay them, the
credits each device is launched with.
-/

@[expose] public section

noncomputable section

namespace Cert.KernelIdeal.Fly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- A semaphore's number; the barrier's is past all the others. -/
def semNo : SemLoc sig → ℕ
  | .reg _ => 102
  | .dma s => s.val

/-- A load's semaphore's number. -/
theorem semNo_load (i : Fin 5) : semNo (.dma (loadS i)) = 1 + i.val := rfl

/-- A send semaphore's number. -/
theorem semNo_send (q : Fin 48) : semNo (.dma (sendS q)) = 6 + q.val := rfl

/-- A receive semaphore's number. -/
theorem semNo_recv (q : Fin 48) : semNo (.dma (recvS q)) = 54 + q.val := rfl

/-- The kernel's semaphores are distinct, -/
theorem osem_injective : Function.Injective osem := by
  rintro (i | q | q) (j | r | r) h <;> have h' := congrArg semNo h <;>
    simp only [osem, semNo_load, semNo_send, semNo_recv] at h'
  · exact congrArg Sum.inl (Fin.ext (by omega))
  · exact absurd h' (by omega)
  · exact absurd h' (by omega)
  · exact absurd h' (by omega)
  · exact congrArg (Sum.inr ∘ Sum.inl) (Fin.ext (by omega))
  · exact absurd h' (by omega)
  · exact absurd h' (by omega)
  · exact absurd h' (by omega)
  · exact congrArg (Sum.inr ∘ Sum.inr) (Fin.ext (by omega))

/-- No transfer's semaphore is the barrier's. -/
theorem osem_ne_bar (k : OK) : osem k ≠ .reg barS := by rcases k with i | q | q <;> exact fun h => by cases h

/-- with the barrier's too. -/
theorem csem_injective : Function.Injective csem := by
  rintro (u | k) (u' | k') h
  · rfl
  · exact absurd h.symm (osem_ne_bar k')
  · exact absurd h (osem_ne_bar k)
  · exact congrArg Sum.inr (osem_injective h)

/-- The cells are pairwise distinct. -/
theorem kcell_injective : Function.Injective (kcell : Dev nD × CK → GSem nD τ sig) := by
  rintro ⟨c, k⟩ ⟨c', k'⟩ h
  obtain rfl : c = c' := congrArg (fun g : GSem nD τ sig => g.1.1) h
  obtain rfl : k = k' := csem_injective (congrArg Prod.snd h)
  rfl

/-- All the cells. -/
def allCells : Finset (GSem nD τ sig) := Finset.univ.map ⟨kcell, kcell_injective⟩

/-- The duties as minted, by the cell's device: a barrier's three, one for every other cell. -/
abbrev tokOf (x : Dev nD × (Fin 3 ⊕ OK)) : GSem nD τ sig × ℕ × Fin 3 := match x.2 with
  | .inl i => (barCell x.1, 0, i)
  | .inr k => (kcell (x.1, .inr k), 0, 0)

/-- The duties are pairwise distinct. -/
theorem tokOf_injective : Function.Injective tokOf := by
  rintro ⟨c, k⟩ ⟨c', k'⟩ h
  obtain rfl : c = c' := by
    have := congrArg (fun x : GSem nD τ sig × ℕ × Fin 3 => x.1.1.1) h
    rcases k with i | k <;> rcases k' with i' | k' <;> exact this
  have h1 := congrArg (fun x : GSem nD τ sig × ℕ × Fin 3 => x.1.2) h
  rcases k with i | k <;> rcases k' with i' | k'
  · obtain rfl : i = i' := congrArg (fun x : GSem nD τ sig × ℕ × Fin 3 => x.2.2) h
    rfl
  · exact absurd h1.symm (osem_ne_bar k')
  · exact absurd h1 (osem_ne_bar k)
  · obtain rfl : k = k' := osem_injective h1
    rfl

/-- All the duties. -/
def allToks : Finset (GSem nD τ sig × ℕ × Fin 3) := Finset.univ.map ⟨tokOf, tokOf_injective⟩

/-- The ghost state at launch. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun i : Fin 3 => dutyTok ER (barCell c) 0 i)
    ∗ (bigSep Finset.univ fun i : Fin 5 => dutyTok ER (loadCell c i) 0 0)
    ∗ (bigSep Finset.univ fun q : Fin 48 => dutyTok ER (sendCell c q) 0 0)
    ∗ (bigSep Finset.univ fun q : Fin 48 => dutyTok ER (recvCell c q) 0 0))

/-- The tokens of the duties it pays. -/
def payToks (c : Dev nD) : sProp 𝕄 :=
  iprop((bigSep Finset.univ fun i : Fin 3 => dutyTok ER (barCell (pal c i)) 0 i)
    ∗ (bigSep Finset.univ fun i : Fin 5 => dutyTok ER (loadCell c i) 0 0)
    ∗ (bigSep Finset.univ fun q : Fin 48 => dutyTok ER (sendCell c q) 0 0)
    ∗ (bigSep Finset.univ fun q : Fin 48 => dutyTok ER (recvCell (peer c q) q) 0 0))

/-- A family over devices, each member dealt along its own permutation of the devices. -/
theorem deal {J : Type} [Fintype J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [bigSep_univ_comm, bigSep_univ_comm (fun c j => Φ (e j c) j)]
  exact bigSep_congr fun j _ => bigSep_univ_equiv (e j) (fun c => Φ c j)

/-- Every token goes to the device that pays its duty. -/
theorem toks_around : (bigSep Finset.univ fun c : Dev nD => (toks c : sProp 𝕄)) = bigSep Finset.univ fun c : Dev nD => payToks c := by
  unfold toks payToks
  simp only [bigSep_sep']
  rw [deal (F := F) (fun i : Fin 3 => palE i) (fun c i => dutyTok ER (barCell c) 0 i),
    deal (F := F) (fun q : Fin 48 => palE (maskOf q)) (fun c q => dutyTok ER (recvCell c q) 0 0)]
  rfl

/-! ## Allocation -/

/-- What the launch element deals device `c`. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- A device's positions and the tokens it pays with. -/
def linear (c : Dev nD) : sProp 𝕄 := iprop((bigSep Finset.univ fun k : CK => atPos ER (kcell (c, k)) 0 ∅ 0) ∗ payToks c)

/-- What the global step makes of it. -/
def G' (c : Dev nD) : sProp 𝕄 := iprop(∃ K, records m K ∗ linear c)

/-- The rounds' ghost state at launch is every device's share of it. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The runtime's barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores are its cells'. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_sum, bigSep_univ_of_subsingleton ()]
  exact sep_comm.1

/-- A device's semaphores at zero and its share of the ghost state give its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records and a device's own tokens and positions are its ghost state. -/
theorem ghost_intro (K : Dev nD × CK → ℕ) (c : Dev nD) : iprop(records m K ∗ linear c) ⊢ G' m c := by
  unfold G'; iintro H; iexists K; iexact H

/-- The cells' invariants are shared out to all the devices, and the tokens dealt to those that use them. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from BI.Entails.refl _))
    isplitl [Hat]; · iexact Hat
    iexact Htok

/-- Own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Two barrier cells are the same exactly if their devices are. -/
theorem bar_eq_iff {a b : Dev nD} : Iff (barCell a = barCell b) (a = b) :=
  ⟨fun h => congrArg (fun g : GSem nD τ sig => g.1.1) h, fun h => h ▸ rfl⟩

/-- Two receive cells are the same exactly if their devices and slots are. -/
theorem recv_eq_iff {a b : Dev nD} {q r : Fin 48} : Iff (recvCell a q = recvCell b r) (a = b ∧ q = r) :=
  ⟨fun h => ⟨congrArg (fun g : GSem nD τ sig => g.1.1) h, by
    have h' := congrArg (fun g : GSem nD τ sig => semNo g.2) h
    simp only [semNo_recv] at h'; exact Fin.ext (by omega)⟩, fun h => by rw [h.1, h.2]⟩

/-- A receive cell is no barrier cell. -/
theorem recv_ne_bar (a b : Dev nD) (q : Fin 48) : recvCell a q ≠ barCell b := fun h => by cases congrArg Prod.snd h

/-- A device is the `i`-th partner of its own `i`-th partner, and of no other device. -/
theorem pal_eq_iff {c d : Dev nD} {i : Fin 3} : Iff (c = pal d i) (d = pal c i) :=
  ⟨fun h => by rw [h, pal_pal], fun h => by rw [h, pal_pal]⟩

/-- What device `d` owes device `c`'s receive cell of slot `q`. -/
theorem owe_recv (d c : Dev nD) (q : Fin 48) : Owe d 0 (recvCell c q) () = if d = peer c q then N else 0 := by
  rw [Owe_apply, Finset.sum_eq_single q]
  · rw [if_pos (Nat.zero_le _), tallyAt_apply]
    by_cases h : d = peer c q
    · rw [if_pos h, if_pos ⟨recv_eq_iff.mpr ⟨pal_eq_iff.mpr h, rfl⟩, rfl⟩]
    · rw [if_neg h, if_neg fun h' => h (pal_eq_iff.mp (recv_eq_iff.mp h'.1).1)]
  · intro q' _ hq
    rw [if_pos (Nat.zero_le _), tallyAt_apply, if_neg fun h' => hq (recv_eq_iff.mp h'.1).2.symm]
  · exact fun h => absurd (Finset.mem_univ q) h

/-- The copies owe no barrier cell. -/
theorem owe_bar (d c : Dev nD) : Owe d 0 (barCell c) () = 0 := by
  rw [Owe_apply]
  exact Finset.sum_eq_zero fun q _ => by
    rw [if_pos (Nat.zero_le _), tallyAt_apply, if_neg fun h' => recv_ne_bar _ _ _ h'.1.symm]

/-- What device `d` owes to the barrier of `c`. -/
theorem owed_bar (d c : Dev nD) :
    O₀ d (barCell c) () = (if d = pal c 2 then 1 else 0) + (if d = pal c 1 then 1 else 0) + (if d = pal c 0 then 1 else 0) := by
  unfold O₀ O₁ O₂
  rw [Pi.add_apply, Finsupp.add_apply, Pi.add_apply, Finsupp.add_apply, Pi.add_apply, Finsupp.add_apply, owe_bar, Nat.zero_add]
  have h (i : Fin 3) : (tallyAt (barCell (pal d i)) () 1 : CellTallies nD τ sig Unit) (barCell c) () = if d = pal c i then 1 else 0 := by
    rw [tallyAt_apply]
    by_cases h : d = pal c i
    · rw [if_pos h, if_pos ⟨bar_eq_iff.mpr (pal_eq_iff.mpr h), rfl⟩]
    · rw [if_neg h, if_neg fun h' => h (pal_eq_iff.mp (bar_eq_iff.mp h'.1))]
  rw [h, h, h]

/-- What device `d` owes to a receive cell of `c`. -/
theorem owed_recv (d c : Dev nD) (q : Fin 48) : O₀ d (recvCell c q) () = if d = peer c q then N else 0 := by
  unfold O₀ O₁ O₂
  rw [Pi.add_apply, Finsupp.add_apply, Pi.add_apply, Finsupp.add_apply, Pi.add_apply, Finsupp.add_apply, owe_recv]
  have h (i : Fin 3) : (tallyAt (barCell (pal d i)) () 1 : CellTallies nD τ sig Unit) (recvCell c q) () = 0 := by
    rw [tallyAt_apply, if_neg fun h' => recv_ne_bar _ _ _ h'.1]
  rw [h, h, h, Nat.add_zero]

/-- The devices together owe three units to a barrier. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pal c 2) fun _ => 1, Finset.sum_ite_eq' Finset.univ (pal c 1) fun _ => 1, Finset.sum_ite_eq' Finset.univ (pal c 0) fun _ => 1,
    if_pos (Finset.mem_univ _), if_pos (Finset.mem_univ _), if_pos (Finset.mem_univ _)]

/-- The devices together owe a chunk's credit to a receive cell. -/
theorem launch_recv (c : Dev nD) (q : Fin 48) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q, Finset.sum_ite_eq' Finset.univ (peer c q) fun _ => N,
    if_pos (Finset.mem_univ _)]

/-- Receive semaphores are pairwise distinct. -/
theorem recvLoc_injective : Function.Injective fun q : Fin 48 => (SemLoc.dma (recvS q) : SemLoc sig) := fun q r h =>
  Fin.ext (by have h' := congrArg semNo h; simp only [semNo_recv] at h'; omega)

/-- What a device is launched with: three units on its barrier, a slot's credit on every receive cell. -/
theorem creds (c : Dev nD) :
    (Pipeline.launchCred O₀ c : sProp 𝕄)
      ⊢ iprop(cred (tallyAt (barCell c) () 3) ∗ bigSep Finset.univ fun q : Fin 48 => cred (tallyAt (recvCell c q) () N)) := by
  unfold Pipeline.launchCred
  rw [bigSep_univ_at _ (SemLoc.reg barS), launch_bar]
  refine sep_mono_right ?_
  have hs : (Finset.univ.map ⟨_, recvLoc_injective⟩ : Finset (SemLoc sig)) ⊆ Finset.univ.erase (SemLoc.reg barS) := fun s hs => by
    obtain ⟨q, -, rfl⟩ := Finset.mem_map.mp hs
    exact Finset.mem_erase.mpr ⟨fun h => (by cases h), Finset.mem_univ _⟩
  refine (bigSep_subset hs).trans ?_
  rw [bigSep_map]
  exact Entails.of_eq (bigSep_congr fun q _ => congrArg (fun t => (cred t : sProp 𝕄)) (launch_recv c q))

end Cert.KernelIdeal.Fly

end
-- ==== Proof.Launch.lean ====
module

public import proofs.«01_k».proof.Proof.Deal
public import proofs.«01_k».proof.Proof.Gen.KernelIdeal.Points
public import Idealize.ShloMosaic.Lib.Pipeline.CollectiveSegs
public import Idealize.ShloMosaic.Lib.Ring
public import Idealize.ShloMosaic.Lib.Pipeline.Value

/-!
# The whole run

The buffers as the launch holds them and as a device's run holds them, the library's obligations, and the run of the
program: every execution terminates with the arguments unchanged, every counter at zero and every device's result array
holding the butterfly's sum.
-/

@[expose] public section

noncomputable section

namespace Cert.KernelIdeal.Fly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The state at launch. -/
def s₀ : MemSt nD τ sig (Elt F) := ⟨m, fun _ => 0, ρ⟩

/-! ## Buffers -/

/-- A buffer held through its whole memref is held. -/
theorem whole_pts (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  show ((((c : Thread nD τ).loc b) ↦[(View.whole b).set]{fullShare} f) : sProp 𝕄) = _
  rw [View.set_whole]

/-- A scratch held, as a load's target. -/
theorem scr_in (c : Dev nD) (b : Ref sig .tc) :
    (iprop(∃ f : Buf (Elt F) ((c : Thread nD τ).loc b), ((c : Thread nD τ).loc b) ↦{fullShare} f) : sProp 𝕄)
      ⊢ iprop(∃ fd, (Memref.whole b).view.loc (c : Thread nD τ) ↦[(Memref.whole b).view.set]{fullShare} fd) := by
  iintro ⟨%f, H⟩; iexists f; iapply (Entails.of_eq (whole_pts c b f).symm); iexact H

/-- What a load leaves: its scratch and its source. -/
theorem pay_out {s : Shape} (c : Dev nD) (src : Memref sig .tc .hbm s .f32) (dst : Memref sig .tc .vmem s .f32)
    (fs : Buf (Elt F) (src.view.loc (c : Thread nD τ))) :
    ldPay (F := F) c src dst fs ⊢ iprop((src.view.loc (c : Thread nD τ) ↦[src.view.set]{fullShare} fs)
      ∗ ∃ f : Buf (Elt F) (dst.view.loc (c : Thread nD τ)), dst.view.loc (c : Thread nD τ) ↦[dst.view.set]{fullShare} f) := by
  unfold ldPay
  iintro ⟨⟨%f, -, H⟩, Hs⟩
  isplitl [Hs]; · iexact Hs
  iexists f; iexact H

/-- A whole scratch of any contents, by its location. -/
theorem scr_out (c : Dev nD) (b : Ref sig .tc) :
    iprop(∃ fd : Buf (Elt F) ((Memref.whole b).view.loc (c : Thread nD τ)), (Memref.whole b).view.loc (c : Thread nD τ) ↦[(Memref.whole b).view.set]{fullShare} fd)
      ⊢ (iprop(∃ f : Buf (Elt F) ((c : Thread nD τ).loc b), ((c : Thread nD τ).loc b) ↦{fullShare} f) : sProp 𝕄) := by
  iintro ⟨%f, H⟩; iexists f; iapply (Entails.of_eq (whole_pts c b f)); iexact H

/-- The columns of a key or value array device `c` loads, and the rest of it. -/
abbrev kvSet (c : Dev nD) (b : Memref sig .tc .hbm S512x1024 .f32) := (kvCols c b).view.set

/-- A weight is the device's columns and the others. -/
theorem kv_split (c : Dev nD) (b : Memref sig .tc .hbm S512x1024 .f32) (f : Buf (Elt F) (b.view.loc (c : Thread nD τ))) :
    (b.view.loc (c : Thread nD τ) ↦{fullShare} f : sProp 𝕄)
      ⊣⊢ iprop(((kvCols c b).view.loc (c : Thread nD τ) ↦[(kvCols c b).view.set]{fullShare} f)
        ∗ (b.view.loc (c : Thread nD τ) ↦[Finset.univ \ (kvCols c b).view.set]{fullShare} f)) :=
  pointsTo_split_subset (Finset.subset_univ _)

/-- The slots are apart, -/
theorem slots_disjoint (b b' : Fin 48) (h : b ≠ b') : Disjoint (slotRect b).set (slotRect b').set := by
  rw [Finset.disjoint_left]
  intro i hi hj
  rw [← Rect.map_emb_univ, Finset.mem_map] at hi hj
  obtain ⟨y, -, rfl⟩ := hi
  obtain ⟨z, -, hz⟩ := hj
  have e0 : b'.val / 16 + 1 * (z 0).val = b.val / 16 + 1 * (y 0).val := congrArg (fun i : S3x16x16x512.Idx => (i 0).val) hz
  have e1 : b'.val % 16 + 1 * (z 1).val = b.val % 16 + 1 * (y 1).val := congrArg (fun i : S3x16x16x512.Idx => (i 1).val) hz
  have hy0 : (y 0).val < 1 := (y 0).isLt
  have hz0 : (z 0).val < 1 := (z 0).isLt
  have hy1 : (y 1).val < 1 := (y 1).isLt
  have hz1 : (z 1).val < 1 := (z 1).isLt
  exact h (Fin.ext (by omega))

/-- and cover their scratch. -/
theorem slots_cover (i : S3x16x16x512.Idx) : ∃ q : Fin 48, i ∈ (slotRect q).set := by
  have h0 : (i 0).val < 3 := (i 0).isLt
  have h1 : (i 1).val < 16 := (i 1).isLt
  refine ⟨⟨16 * (i 0).val + (i 1).val, by omega⟩, ?_⟩
  rw [← Rect.map_emb_univ, Finset.mem_map]
  refine ⟨(fun a => match a with
    | 0 => (⟨0, Nat.one_pos⟩ : Fin 1) | 1 => (⟨0, Nat.one_pos⟩ : Fin 1) | 2 => (i 2 : Fin 16) | 3 => (i 3 : Fin 512) : S1x1x16x512.Idx), Finset.mem_univ _, ?_⟩
  funext a
  refine Fin.ext ?_
  fin_cases a
  · show (16 * (i 0).val + (i 1).val) / 16 + 1 * 0 = (i 0).val; omega
  · show (16 * (i 0).val + (i 1).val) % 16 + 1 * 0 = (i 1).val; omega
  · show 0 + 1 * (i 2).val = (i 2).val; omega
  · show 0 + 1 * (i 3).val = (i 3).val; omega

/-- A send slot is its rectangle of the scratch. -/
theorem sSlot_rect (q : Fin 48) : (sSlot q).view.set = (slotRect q).set := (sSlot_set q).trans (View.set_slice_whole cc0_scratch6 (slotRect q))

/-- A receive slot is its rectangle of the scratch. -/
theorem rSlot_rect (q : Fin 48) : (rSlot q).view.set = (slotRect q).set := (rSlot_set q).trans (View.set_slice_whole cc0_scratch7 (slotRect q))

/-- The slots make up the scratch. -/
theorem slots_union : Finset.univ.biUnion (fun q => (slotRect q).set) = Finset.univ := by
  ext i
  simp only [Finset.mem_biUnion, Finset.mem_univ, true_and, iff_true]
  exact slots_cover i

/-- The send scratch slot by slot; -/
theorem send_slots (c : Dev nD) (f : Buf (Elt F) ((c : Thread nD τ).loc cc0_scratch6)) :
    (((c : Thread nD τ).loc cc0_scratch6) ↦{fullShare} f : sProp 𝕄) = bigSep Finset.univ fun q : Fin 48 => sPts (F := F) c q f :=
  (Ring.pointsTo_blocks (fun q => (slotRect q).set) slots_disjoint slots_union f).trans
    (bigSep_congr fun q _ => by unfold sPts; rw [sSlot_rect])

/-- The receive scratch is its slots. -/
theorem recv_slots (c : Dev nD) (f : Buf (Elt F) ((c : Thread nD τ).loc cc0_scratch7)) :
    (((c : Thread nD τ).loc cc0_scratch7) ↦{fullShare} f : sProp 𝕄) = bigSep Finset.univ fun q : Fin 48 => rPts (F := F) c q f :=
  (Ring.pointsTo_blocks (fun q => (slotRect q).set) slots_disjoint slots_union f).trans
    (bigSep_congr fun q _ => by unfold rPts; rw [rSlot_rect])

/-- A send slot of some contents. -/
theorem sPts_some (c : Dev nD) (q : Fin 48) (f : Buf (Elt F) ((c : Thread nD τ).loc cc0_scratch6)) :
    sPts (F := F) c q f ⊢ iprop(∃ f, sPts (F := F) c q f) := by iintro H; iexists f; iexact H

/-- A receive slot of some contents. -/
theorem rPts_some (c : Dev nD) (q : Fin 48) (f : Buf (Elt F) ((c : Thread nD τ).loc cc0_scratch7)) :
    rPts (F := F) c q f ⊢ iprop(∃ f, rPts (F := F) c q f) := by iintro H; iexists f; iexact H

/-- The send scratch, split into its slots. -/
theorem send_split (c : Dev nD) :
    iprop(∃ f : Buf (Elt F) ((c : Thread nD τ).loc cc0_scratch6), ((c : Thread nD τ).loc cc0_scratch6) ↦{fullShare} f)
      ⊢ bigSep Finset.univ fun q : Fin 48 => iprop(∃ f, sPts (F := F) c q f) := by
  iintro ⟨%f, H⟩
  iapply ((Entails.of_eq (send_slots c f)).trans (bigSep_mono fun q _ => sPts_some c q f)); iexact H

/-- The receive scratch, split into its slots. -/
theorem recv_split (c : Dev nD) :
    iprop(∃ f : Buf (Elt F) ((c : Thread nD τ).loc cc0_scratch7), ((c : Thread nD τ).loc cc0_scratch7) ↦{fullShare} f)
      ⊢ bigSep Finset.univ fun q : Fin 48 => iprop(∃ f, rPts (F := F) c q f) := by
  iintro ⟨%f, H⟩
  iapply ((Entails.of_eq (recv_slots c f)).trans (bigSep_mono fun q _ => rPts_some c q f)); iexact H

/-- and joined again. -/
theorem send_join (c : Dev nD) (f₀ : Buf (Elt F) ((c : Thread nD τ).loc cc0_scratch6)) :
    (bigSep Finset.univ fun q : Fin 48 => iprop(∃ f, sPts (F := F) c q f))
      ⊢ iprop(∃ f : Buf (Elt F) ((c : Thread nD τ).loc cc0_scratch6), ((c : Thread nD τ).loc cc0_scratch6) ↦{fullShare} f) := by
  refine BIBase.Entails.trans (Entails.of_eq (bigSep_congr fun q _ => ?_))
    (Ring.pointsTo_blocks_join_exists (fun q => (slotRect q).set) slots_disjoint slots_union f₀)
  unfold sPts; rw [sSlot_rect]

/-- The receive slots, joined into the scratch. -/
theorem recv_join (c : Dev nD) (f₀ : Buf (Elt F) ((c : Thread nD τ).loc cc0_scratch7)) :
    (bigSep Finset.univ fun q : Fin 48 => iprop(∃ f, rPts (F := F) c q f))
      ⊢ iprop(∃ f : Buf (Elt F) ((c : Thread nD τ).loc cc0_scratch7), ((c : Thread nD τ).loc cc0_scratch7) ↦{fullShare} f) := by
  refine BIBase.Entails.trans (Entails.of_eq (bigSep_congr fun q _ => ?_))
    (Ring.pointsTo_blocks_join_exists (fun q => (slotRect q).set) slots_disjoint slots_union f₀)
  unfold rPts; rw [rSlot_rect]

/-! ## What the launch hands a device, and what it gets back -/

/-- The arguments as the loads' sources. -/
def srcs (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ((kvCols c (Memref.whole main_arg2)).view.loc (c : Thread nD τ) ↦[(kvCols c (Memref.whole main_arg2)).view.set]{fullShare} m ((c : Thread nD τ).loc main_arg2))
    ∗ ((kvCols c (Memref.whole main_arg3)).view.loc (c : Thread nD τ) ↦[(kvCols c (Memref.whole main_arg3)).view.set]{fullShare} m ((c : Thread nD τ).loc main_arg3))
    ∗ (((c : Thread nD τ).loc main_arg4) ↦{fullShare} m ((c : Thread nD τ).loc main_arg4)))

/-- What is left of the key and value arrays. -/
def kvRest (c : Dev nD) : sProp 𝕄 :=
  iprop(((Memref.whole main_arg2).view.loc (c : Thread nD τ) ↦[Finset.univ \ (kvCols c (Memref.whole main_arg2)).view.set]{fullShare} m ((c : Thread nD τ).loc main_arg2))
    ∗ ((Memref.whole main_arg3).view.loc (c : Thread nD τ) ↦[Finset.univ \ (kvCols c (Memref.whole main_arg3)).view.set]{fullShare} m ((c : Thread nD τ).loc main_arg3)))

/-- The five arguments, whole. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4)))

/-- The arguments are the loads' sources and the other columns. -/
theorem args_split (c : Dev nD) : args m c ⊢ iprop(srcs m c ∗ kvRest m c) := by
  unfold args srcs kvRest
  iintro ⟨H0, H1, H2, H3, H4⟩
  ihave H2 := (kv_split (F := F) c (Memref.whole main_arg2) (m ((c : Thread nD τ).loc main_arg2))).1 $$ H2
  ihave H3 := (kv_split (F := F) c (Memref.whole main_arg3) (m ((c : Thread nD τ).loc main_arg3))).1 $$ H3
  icases H2 with ⟨A2, B2⟩
  icases H3 with ⟨A3, B3⟩
  isplitr [B2 B3]
  · isplitl [H0]; · iexact H0
    isplitl [H1]; · iexact H1
    isplitl [A2]; · iexact A2
    isplitl [A3] <;> iassumption
  · isplitl [B2] <;> iassumption

/-- The sources and the other columns are the arguments. -/
theorem args_join (c : Dev nD) : iprop(srcs m c ∗ kvRest m c) ⊢ args m c := by
  unfold args srcs kvRest
  iintro ⟨⟨H0, H1, A2, A3, H4⟩, B2, B3⟩
  isplitl [H0]; · iexact H0
  isplitl [H1]; · iexact H1
  isplitl [A2 B2]
  · iapply (kv_split (F := F) c (Memref.whole main_arg2) (m ((c : Thread nD τ).loc main_arg2))).2
    isplitl [A2] <;> iassumption
  isplitl [A3 B3]
  · iapply (kv_split (F := F) c (Memref.whole main_arg3) (m ((c : Thread nD τ).loc main_arg3))).2
    isplitl [A3] <;> iassumption
  iexact H4

/-- What a device starts with but for its scratches. -/
def start (c : Dev nD) : sProp 𝕄 :=
  iprop(G' m c ∗ (cred (tallyAt (barCell c) () 3) ∗ bigSep Finset.univ fun q : Fin 48 => cred (tallyAt (recvCell c q) () N)) ∗ levAts L lv ∗ srcs m c)

/-- What a device holds before the body. -/
def Φ₀ (c : Dev nD) : sProp 𝕄 := iprop(∃ K, records m K ∗ runPre m c)

/-- What is passed on after the run. -/
def finish (c : Dev nD) : sProp 𝕄 := iprop(unscopedSems0 c ∗ srcs m c)

/-- The pipeline's proof data: the one point, its output, and what is held before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => runPost m c
  q _ := fullShare
  owed t := match t with
    | ⟨0, _⟩ => O₀ c
    | ⟨_ + 1, _⟩ => 0

/-- A separating product over the one window. -/
theorem bigSep_W (Φ : Fin cfg0.W → sProp 𝕄) : bigSep Finset.univ Φ = Φ (0 : Fin 1) := bigSep_W0 Φ

/-- Owning a whole buffer, by its location. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the body starts with. -/
def bodyPre (c : Dev nD) : sProp 𝕄 :=
  iprop(Φ₀ m c ∗ (dats m ρ 0 c).owesAt () t0_0.castSucc
    ∗ (∃ d, stg c cc0_stg0_0 ((dats m ρ 0 c).before (0 : Fin 1) t0_0 d)))

/-- What the body ends with. -/
def bodyPost (c : Dev nD) : sProp 𝕄 :=
  iprop(runPost m c ∗ (dats m ρ 0 c).owesAt () t0_0.succ ∗ stg c cc0_stg0_0 (outC m c))

/-- The output buffer at any contents has no chunk final yet. -/
theorem out_start (c : Dev nD) (f : Buf (Elt F) ((c : Thread nD τ).loc cc0_stg0_0)) :
    (((c : Thread nD τ).loc cc0_stg0_0) ↦{fullShare} f : sProp 𝕄) ⊢ outInv m c 0 := by
  unfold outInv
  iintro H; iexists f
  isplitr; · ipureintro; exact fun j hj => absurd hj (Nat.not_lt_zero _)
  iexact H

/-- The body, from what it starts with to what it ends with. -/
theorem sound_body (c : Dev nD) :
    bodyPre m ρ c ⊢ WP c (bodyM oM (Memref.isWhole_whole _)) (fun _ => bodyPost m ρ c) := by
  unfold bodyPre bodyPost Φ₀ Dat.owesAt Pipeline.owesWithin
  rw [show (dats m ρ 0 c).owed t0_0.castSucc = O₀ c from rfl, show (dats m ρ 0 c).owed t0_0.succ = 0 from rfl]
  iintro ⟨⟨%K, #HR, Hpre⟩, ⟨%W, %hW, HO⟩, ⟨%d, %g, %hg, Hout⟩⟩
  iapply (wp_body m K c) $$ [Hpre HO Hout]
  · isplitr; · iexact HR
    isplitl [Hpre]; · iexact Hpre
    isplitl [HO]; · iexists W; iexact HO
    iapply (out_start m c g); iexact Hout
  iintro ⟨Hpost, ⟨%W', HO⟩, Hout⟩
  isplitl [Hpost]; · iexact Hpost
  isplitl [HO]
  · iexists W'
    isplitr; · ipureintro; exact fun _ _ => Or.inl trivial
    iexact HO
  iexists (outC m c)
  isplitr; · (ipureintro; rfl)
  iapply (out_full m c); iexact Hout

set_option maxRecDepth 65536 in
/-- The library's body obligation. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ (bodyAt0 t0_0) (fun _ => bodyPost m ρ c)
  have e : (bodyAt0 (F := F) t0_0) = bodyM oM (Memref.isWhole_whole _) := body_eq _ _
  rw [e]
  exact sound_body m ρ c

/-! ## The theorem's side conditions -/

/-- The transfers' semaphores are the region's own, and pairwise distinct. -/
theorem ownSemFacts : Pipeline.OwnSemFacts cfg0.spec osem where
  isScoped k := by rcases k with i | i | i <;> revert i <;> decide
  inj := osem_injective
  disj k w s h := by
    have h' := congrArg semNo h
    have h0 : semNo (.dma ((cfg0.spec w).sem s)) = 0 := by fin_cases w; fin_cases s; rfl
    rcases k with i | q | q
    · have e : semNo (.dma (loadS i)) = 0 := h'.trans h0
      rw [semNo_load] at e; omega
    · have e : semNo (.dma (sendS q)) = 0 := h'.trans h0
      rw [semNo_send] at e; omega
    · have e : semNo (.dma (recvS q)) = 0 := h'.trans h0
      rw [semNo_recv] at e; omega

/-- The window is held in full. -/
theorem share_eq (c : Dev nD) (w : Fin cfg0.W) : (dats m ρ 0 c).share w = fullShare := by unfold Dat.share; split <;> rfl

/-- What the launch gives a device is what it starts with, and the columns that it does not load. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kvRest m c) := by
  rw [Pipeline.unscopedRestP_none, unscopedRest0_eq]
  iintro ⟨Ha, Hlev, Hcr, -, HG⟩
  ihave Hs := (args_split m c) $$ [Ha]
  · unfold args; iexact Ha
  icases Hs with ⟨Hs, Hz⟩
  ihave Hc := (creds (F := F) c) $$ Hcr
  imodintro
  unfold start
  isplitr [Hz]
  · isplitl [HG]; · iexact HG
    isplitl [Hc]; · iexact Hc
    isplitl [Hlev] <;> iassumption
  · iexact Hz

/-- A separating product over five. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A device's positions, cell kind by cell kind. -/
theorem pos_eq (c : Dev nD) :
    (bigSep Finset.univ fun k : CK => (atPos ER (kcell (c, k)) 0 ∅ 0 : sProp 𝕄))
      = iprop(atPos ER (barCell c) 0 ∅ 0 ∗ (bigSep Finset.univ fun i : Fin 5 => atPos ER (loadCell c i) 0 ∅ 0)
        ∗ (bigSep Finset.univ fun q : Fin 48 => atPos ER (sendCell c q) 0 ∅ 0) ∗ (bigSep Finset.univ fun q : Fin 48 => atPos ER (recvCell c q) 0 ∅ 0)) := by
  rw [bigSep_univ_sum, bigSep_univ_sum, bigSep_univ_sum, bigSep_univ_of_subsingleton ()]; rfl

/-- The slots' tokens and positions, by kind. -/
theorem ready_eq (c : Dev nD) :
    (bigSep Finset.univ fun q : Fin 48 => ready (F := F) c q)
      = iprop((bigSep Finset.univ fun q : Fin 48 => iprop(∃ f, sPts (F := F) c q f)) ∗ (bigSep Finset.univ fun q : Fin 48 => dutyTok ER (sendCell c q) 0 0)
        ∗ (bigSep Finset.univ fun q : Fin 48 => dutyTok ER (recvCell (peer c q) q) 0 0) ∗ (bigSep Finset.univ fun q : Fin 48 => atPos ER (sendCell c q) 0 ∅ 0)
        ∗ (bigSep Finset.univ fun q : Fin 48 => atPos ER (recvCell c q) 0 ∅ 0) ∗ bigSep Finset.univ fun q : Fin 48 => cred (tallyAt (recvCell c q) () N)) := by
  unfold ready; simp only [bigSep_sep']

/-- The loads' tokens and positions, one by one. -/
theorem lds_eq (c : Dev nD) :
    iprop((bigSep Finset.univ fun i : Fin 5 => dutyTok ER (loadCell c i) 0 0) ∗ bigSep Finset.univ fun i : Fin 5 => atPos ER (loadCell c i) 0 ∅ 0)
      = iprop(ldSt (F := F) c 0 ∗ ldSt (F := F) c 1 ∗ ldSt (F := F) c 2 ∗ ldSt (F := F) c 3 ∗ ldSt (F := F) c 4) := by
  rw [← bigSep_sep']; exact bigSep_fin5 fun i => ldSt (F := F) c i

set_option maxHeartbeats 800000 in
/-- What a device starts with and its scratches are what the body needs. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold start Φ₀ G' linear payToks srcs
  rw [pos_eq, bigSep_fin3]
  iintro ⟨⟨⟨%K, #HR, ⟨HaB, HaL, HaS, HaV⟩, HtB, HtL, HtS, HtV⟩, ⟨HcB, HcV⟩, Hlev, S0, S1, S2, S3, S4⟩, -, D0, D1, D4, D2, D3, D6, D7⟩
  iexists K
  isplitr; · iexact HR
  unfold runPre
  isplitl [Hlev]; · iexact Hlev
  isplitl [HcB HaB]
  · isplitl [HcB] <;> iassumption
  isplitl [HtB]; · iexact HtB
  isplitl [HtL HaL]
  · iapply (Entails.of_eq (lds_eq (F := F) c))
    isplitl [HtL] <;> iassumption
  isplitl [S0 S1 S2 S3 S4 D0 D1 D2 D3 D4]
  · unfold loadsIn ldIn
    isplitl [S0 D0]
    · isplitl [S0]
      · iapply (Entails.of_eq (whole_pts c main_arg0 _).symm); iexact S0
      · iapply (scr_in (F := F) c cc0_scratch0); iexact D0
    isplitl [S1 D1]
    · isplitl [S1]
      · iapply (Entails.of_eq (whole_pts c main_arg1 _).symm); iexact S1
      · iapply (scr_in (F := F) c cc0_scratch1); iexact D1
    isplitl [S2 D2]
    · isplitl [S2]; · iexact S2
      iapply (scr_in (F := F) c cc0_scratch3); iexact D2
    isplitl [S3 D3]
    · isplitl [S3]; · iexact S3
      iapply (scr_in (F := F) c cc0_scratch4); iexact D3
    isplitl [S4]
    · iapply (Entails.of_eq (whole_pts c main_arg4 _).symm); iexact S4
    · iapply (scr_in (F := F) c cc0_scratch2); iexact D4
  isplitr [D7]
  · rw [ready_eq]
    isplitl [D6]; · iapply (send_split (F := F) c); iexact D6
    isplitl [HtS]; · iexact HtS
    isplitl [HtV]; · iexact HtV
    isplitl [HaS]; · iexact HaS
    isplitl [HaV] <;> iassumption
  · iapply (recv_split (F := F) c); iexact D7

/-- Every slot landed: the scratches, and the cells at zero. -/
theorem St_exit (c : Dev nD) :
    St (F := F) c 48 48 = iprop((bigSep Finset.univ fun q : Fin 48 => iprop(∃ f, sPts (F := F) c q f)) ∗ (bigSep Finset.univ fun q : Fin 48 => iprop(∃ f, rPts (F := F) c q f))
      ∗ (bigSep Finset.univ fun q : Fin 48 => semVal (sendCell c q) 0) ∗ bigSep Finset.univ fun q : Fin 48 => semVal (recvCell c q) 0) := by
  unfold St
  refine (bigSep_congr fun q _ => if_pos q.isLt).trans ?_
  unfold landed; simp only [bigSep_sep']

/-- The transfers' semaphores at zero, by kind. -/
theorem ownSems0_eq (c : Dev nD) :
    (Pipeline.ownSems0 (Ix := Unit) (Name := ℕ) (U := UU) (Lvl := ℕ) (Val := Elt F) (τ := τ) osem c : sProp 𝕄)
      = iprop(zeros (F := F) c ∗ (bigSep Finset.univ fun q : Fin 48 => semVal (sendCell c q) 0) ∗ bigSep Finset.univ fun q : Fin 48 => semVal (recvCell c q) 0) := by
  unfold Pipeline.ownSems0
  rw [bigSep_univ_sum, bigSep_univ_sum, bigSep_fin5]; rfl

set_option maxHeartbeats 800000 in
/-- What the body leaves gives the scratches and the semaphores back, at zero. -/
theorem phi1_exit (c : Dev nD) :
    (dats m ρ 0 c).Φ (Fin.last cfg0.N) ⊢ iprop(finish m c ∗ Pipeline.ownSems0 osem c ∗ Pipeline.scopedRest cfg0.spec c) := by
  rw [show (dats m ρ 0 c).Φ (Fin.last cfg0.N) = runPost m c from rfl, scopedRest0_eq, ownSems0_eq]
  unfold runPost finish loadsOut srcs
  rw [St_exit, unscopedSems0_eq]
  iintro ⟨HzB, Hz, ⟨P0, P1, P2, P3, P4⟩, D6, D7, HzS, HzV⟩
  ihave P0 := (pay_out (F := F) c _ _ _) $$ P0
  ihave P1 := (pay_out (F := F) c _ _ _) $$ P1
  ihave P2 := (pay_out (F := F) c _ _ _) $$ P2
  ihave P3 := (pay_out (F := F) c _ _ _) $$ P3
  ihave P4 := (pay_out (F := F) c _ _ _) $$ P4
  icases P0 with ⟨S0, D0⟩
  icases P1 with ⟨S1, D1⟩
  icases P2 with ⟨S2, D2⟩
  icases P3 with ⟨S3, D3⟩
  icases P4 with ⟨S4, D4⟩
  isplitl [HzB S0 S1 S2 S3 S4]
  · isplitl [HzB]; · iexact HzB
    isplitl [S0]; · iapply (Entails.of_eq (whole_pts c main_arg0 _)); iexact S0
    isplitl [S1]; · iapply (Entails.of_eq (whole_pts c main_arg1 _)); iexact S1
    isplitl [S2]; · iexact S2
    isplitl [S3]; · iexact S3
    iapply (Entails.of_eq (whole_pts c main_arg4 _)); iexact S4
  isplitl [Hz HzS HzV]
  · isplitl [Hz]; · iexact Hz
    isplitl [HzS] <;> iassumption
  isplitl [D0]; · iapply (scr_out (F := F) c cc0_scratch0); iexact D0
  isplitl [D1]; · iapply (scr_out (F := F) c cc0_scratch1); iexact D1
  isplitl [D4]; · iapply (scr_out (F := F) c cc0_scratch2); iexact D4
  isplitl [D2]; · iapply (scr_out (F := F) c cc0_scratch3); iexact D2
  isplitl [D3]; · iapply (scr_out (F := F) c cc0_scratch4); iexact D3
  isplitl [D6]; · iapply (send_join c (m ((c : Thread nD τ).loc cc0_scratch6))); iexact D6
  iapply (recv_join c (m ((c : Thread nD τ).loc cc0_scratch7))); iexact D7

/-- The region's own waits lie below what a device owes. -/
theorem waits (c : Dev nD) : (levAts L lv : sProp 𝕄) ⊢ Pipeline.cellsWaits cfgs (dats m ρ) () 0 c :=
  Pipeline.cellsWaits_intro cfgs (dats m ρ) () 0 c fun w s t =>
    mayWait_zero c _ (by fin_cases w; fin_cases s; rfl) _ (by
      rcases t with ⟨_ | _, ht⟩
      · exact Or.inl rfl
      · exact Or.inr rfl)

/-- A buffer held is what the memory holds. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  icombine HSI H gives %h
  isplitr; · ipureintro; exact Buf.eq_of_forall_mem_univ h
  iexact HSI

/-- The arguments held are what the memory holds. -/
theorem read_args (c : Dev nD) (s' : Phys nD τ sig (Elt F)) :
    iprop(args m c ∗ SI s') ⊢ iprop(⌜s'.mem.mem ((c : Thread nD τ).loc main_arg0) = m ((c : Thread nD τ).loc main_arg0)
      ∧ s'.mem.mem ((c : Thread nD τ).loc main_arg1) = m ((c : Thread nD τ).loc main_arg1)
      ∧ s'.mem.mem ((c : Thread nD τ).loc main_arg2) = m ((c : Thread nD τ).loc main_arg2)
      ∧ s'.mem.mem ((c : Thread nD τ).loc main_arg3) = m ((c : Thread nD τ).loc main_arg3)
      ∧ s'.mem.mem ((c : Thread nD τ).loc main_arg4) = m ((c : Thread nD τ).loc main_arg4)⌝ ∗ SI s') := by
  unfold args
  iintro ⟨⟨H0, H1, H2, H3, H4⟩, HSI⟩
  ihave HSI := (read_one _ _ s') $$ [H0 HSI]
  · isplitl [H0] <;> iassumption
  icases HSI with ⟨%h0, HSI⟩
  ihave HSI := (read_one _ _ s') $$ [H1 HSI]
  · isplitl [H1] <;> iassumption
  icases HSI with ⟨%h1, HSI⟩
  ihave HSI := (read_one _ _ s') $$ [H2 HSI]
  · isplitl [H2] <;> iassumption
  icases HSI with ⟨%h2, HSI⟩
  ihave HSI := (read_one _ _ s') $$ [H3 HSI]
  · isplitl [H3] <;> iassumption
  icases HSI with ⟨%h3, HSI⟩
  ihave HSI := (read_one _ _ s') $$ [H4 HSI]
  · isplitl [H4] <;> iassumption
  icases HSI with ⟨%h4, HSI⟩
  isplitr; · ipureintro; exact ⟨h0, h1, h2, h3, h4⟩
  iexact HSI

/-! ## The run -/

/-- The result array ends at the result. -/
theorem out_final (c : Dev nD) : (dats m ρ 0 c).arrAt (0 : Fin 1) cfg0.N = outC m c :=
  (dats m ρ 0 c).arrAt_eq_of_cover (0 : Fin 1) (outC m c) (fun t _ => by
    obtain rfl := fin_N0 t
    have ha : (dats m ρ 0 c).after (0 : Fin 1) t0_0 = outC m c := by dsimp only [dats]
    unfold Pipeline.Dat.flushed
    rw [ha]
    funext y
    refine congrArg (outC m c) (funext fun a => Fin.ext ?_)
    fin_cases a
    · show (y 0).val = 0 * 2 + 1 * (y 0).val; omega
    · show (y 1).val = 0 * 128 + 1 * (y 1).val; omega
    · show (y 2).val = 0 * 512 + 1 * (y 2).val; omega) fun i => ⟨t0_0, flush0_0 _, by
      show i ∈ ((View.whole main_v1).slice (win0_0.rect t0_0)).set
      rw [View.set_slice_whole, ← Rect.map_emb_univ, Finset.mem_map]
      refine ⟨i, Finset.mem_univ _, funext fun a => Fin.ext ?_⟩
      fin_cases a
      · show 0 * 2 + 1 * (i 0).val = (i 0).val; omega
      · show 0 * 128 + 1 * (i 1).val = (i 1).val; omega
      · show 0 * 512 + 1 * (i 2).val = (i 2).val; omega⟩

/-- What the run's final states satisfy. -/
def QC : PUnit × MemSt nD τ sig (Elt F) → Prop := fun r =>
  (∀ c : Dev nD, r.2.mem ((c : Thread nD τ).loc main_v1) = outC m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

set_option maxRecDepth 65536 in
/-- At any float values, from any memory with zero counters: every execution of the program on the eight devices
    terminates, with every device's result array at the sum its butterfly makes, every argument as it was and every
    semaphore counter at zero. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := finish m) (Z := kvRest m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    (hY := fun c s' => by
      unfold finish
      iintro ⟨⟨Hu, Hs⟩, Hz, HSI⟩
      ihave Ha := (args_join m c) $$ [Hs Hz]
      · isplitl [Hs] <;> iassumption
      ihave HSI := (read_args m c s') $$ [Ha HSI]
      · isplitl [Ha] <;> iassumption
      icases HSI with ⟨%ha, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, ha⟩
      iexact HSI)
    (hQ := fun _ h hs => ⟨fun c => ⟨((h c).1 (0 : Fin 1)).trans (out_final m ρ c), (h c).2.2.2⟩, sem_eq_zero hs fun c => (h c).2.2.1⟩)

end Cert.KernelIdeal.Fly

end
-- ==== Proof.KerVal.lean ====
module

public import proofs.«01_k».proof.Proof.Cells
public import Idealize.ShloMosaic.Lib.Pointwise

/-!
# A device's partial, at an index

What a device computes before anything travels, read over the extended reals at one row and column: the three
projections, the attention of one head's row, and the sum of eight heads against the device's rows of the
output weights.
-/

@[expose] public section

set_option maxRecDepth 16384

noncomputable section

namespace Cert.KernelIdeal.Fly

open Cert.KernelIdeal Cert.KernelIdeal.Gen
open Idealize.ShloMosaic Idealize.ShloMosaic.TcCoe

/-! ## Attention of one row -/

/-- The scaled score of a query against the key at position `j`. -/
def score (q : Fin 64 → EReal) (K : Fin 128 → Fin 64 → EReal) (j : Fin 128) : EReal :=
  (∑ d : Fin 64, q d * K j d) * Ideal.ofBits .f32 0x3E000000#32

/-- The greatest score. -/
def top (q : Fin 64 → EReal) (K : Fin 128 → Fin 64 → EReal) : EReal :=
  Finset.univ.fold max (Ideal.ofBits .f32 0xFF800000#32) (score q K)

/-- The weight of position `j`. -/
def weight (q : Fin 64 → EReal) (K : Fin 128 → Fin 64 → EReal) (j : Fin 128) : EReal :=
  Ideal.exp (score q K j - top q K)

/-- Column `d` of the attention of one query. -/
def att (q : Fin 64 → EReal) (K V : Fin 128 → Fin 64 → EReal) (d : Fin 64) : EReal :=
  Ideal.div (∑ j : Fin 128, weight q K j * V j d) (∑ j : Fin 128, weight q K j)

/-! ## The kernel's values -/

/-- The query projection at a row and a column. -/
theorem pay3_apply (x : FVec Ideal S2x128x512 .f32) (w : FVec Ideal S512x512 .f32) (i : Fin 256) (n : Fin 512) :
    (k0_pay3 (F := Ideal) x w (ix2 i n) : EReal) = ∑ k : Fin 512, x (ix3 ⟨i.val / 128, by omega⟩ ⟨i.val % 128, by omega⟩ k) * w (ix2 k n) := by
  pointwise [k0_pay3, k0_pay2]

/-- The key projection. -/
theorem pay4_apply (x : FVec Ideal S2x128x512 .f32) (w : FVec Ideal S512x128 .f32) (i : Fin 256) (n : Fin 128) :
    (k0_pay4 (F := Ideal) x w (ix2 i n) : EReal) = ∑ k : Fin 512, x (ix3 ⟨i.val / 128, by omega⟩ ⟨i.val % 128, by omega⟩ k) * w (ix2 k n) := by
  pointwise [k0_pay4, k0_pay2]

/-- The value projection. -/
theorem pay5_apply (x : FVec Ideal S2x128x512 .f32) (w : FVec Ideal S512x128 .f32) (i : Fin 256) (n : Fin 128) :
    (k0_pay5 (F := Ideal) x w (ix2 i n) : EReal) = ∑ k : Fin 512, x (ix3 ⟨i.val / 128, by omega⟩ ⟨i.val % 128, by omega⟩ k) * w (ix2 k n) := by
  pointwise [k0_pay5, k0_pay2]

/-- Two reads of a matrix at equal rows and columns. -/
theorem read2_congr {α : Type} {R C : ℕ} (f : (⟨2, ![R, C]⟩ : Shape).Idx → α) {a a' : Fin R} {b b' : Fin C}
    (ha : a.val = a'.val) (hb : b.val = b'.val) : f (ix2 a b) = f (ix2 a' b') := by
  rw [Fin.ext ha, Fin.ext hb]

/-- Head `j` of half `g` of the queries of batch `b`. -/
theorem qStack_apply (q : FVec Ideal S256x512 .bf16) (b g : Fin 2) (j : Fin 4) (r : Fin 128) (d : Fin 64) :
    qStack q b g (ix2 ⟨128 * j.val + r.val, by omega⟩ d)
      = q (ix2 ⟨128 * b.val + r.val, by omega⟩ ⟨256 * g.val + 64 * j.val + d.val, by omega⟩) := by
  pointwise [qStack]
  split_ifs <;> exact read2_congr q (by dsimp only; omega) (by dsimp only; omega)

/-- The scaled scores of a stacked query. -/
theorem scores_apply (q : FVec Ideal S256x512 .bf16) (k : FVec Ideal S256x128 .bf16) (b g : Fin 2) (i : Fin 512) (j : Fin 128) :
    scores q k b g (ix2 i j) = score (fun d => qStack q b g (ix2 i d))
      (fun j d => k (ix2 ⟨128 * b.val + j.val, by omega⟩ ⟨64 * g.val + d.val, by omega⟩)) j := by
  pointwise [scores, score]

/-- A weight: the score less its row's greatest, exponentiated. -/
theorem expo_apply (s : FVec Ideal S512x128 .f32) (i : Fin 512) (j : Fin 128) :
    expo s (ix2 i j) = Ideal.exp (s (ix2 i j) - Finset.univ.fold max (Ideal.ofBits .f32 0xFF800000#32) fun k : Fin 128 => s (ix2 i k)) := by
  pointwise [expo]

/-- Weighted values over the weights' sum. -/
theorem heads_apply (p : FVec Ideal S512x128 .f32) (v : FVec Ideal S128x64 .bf16) (i : Fin 512) (d : Fin 64) :
    heads p v (ix2 i d) = Ideal.div (∑ j : Fin 128, p (ix2 i j) * v (ix2 j d)) (∑ j : Fin 128, p (ix2 i j)) := by
  pointwise [heads]

/-- Eight heads side by side: column `256 g + 64 j + d` is column `d` of head `j` of half `g`. -/
theorem sideBy_apply (a a' : FVec Ideal S512x64 .bf16) (r : Fin 128) (g : Fin 2) (j : Fin 4) (d : Fin 64) :
    sideBy a a' (ix2 r ⟨256 * g.val + 64 * j.val + d.val, by omega⟩)
      = (if g.val = 0 then a else a') (ix2 ⟨128 * j.val + r.val, by omega⟩ d) := by
  pointwise [sideBy, headOf]
  obtain hg | hg : g.val = 0 ∨ g.val = 1 := by omega
  all_goals
    simp only [hg, if_pos, one_ne_zero, if_false]
    split_ifs <;> first | omega | exact read2_congr _ (by dsimp only; omega) (by dsimp only; omega)

/-- The attention of head `j` of half `g`, at a row and a column. -/
theorem attn_apply (q : FVec Ideal S256x512 .bf16) (k v : FVec Ideal S256x128 .bf16) (b g : Fin 2) (j : Fin 4) (r : Fin 128)
    (d : Fin 64) : attn q k v b g (ix2 ⟨128 * j.val + r.val, by omega⟩ d)
      = att (fun d => q (ix2 ⟨128 * b.val + r.val, by omega⟩ ⟨256 * g.val + 64 * j.val + d.val, by omega⟩))
          (fun t d => k (ix2 ⟨128 * b.val + t.val, by omega⟩ ⟨64 * g.val + d.val, by omega⟩))
          (fun t d => v (ix2 ⟨128 * b.val + t.val, by omega⟩ ⟨64 * g.val + d.val, by omega⟩)) d := by
  unfold attn att
  rw [heads_apply]
  simp only [expo_apply, scores_apply, qStack_apply]
  pointwise [weight, top]

/-- Two entries of a projection at equal rows and columns. -/
theorem proj_congr {B R K C : ℕ} (x : (⟨3, ![B, R, K]⟩ : Shape).Idx → EReal) (w : (⟨2, ![K, C]⟩ : Shape).Idx → EReal)
    {b b' : Fin B} {r r' : Fin R} {n n' : Fin C} (hb : b.val = b'.val) (hr : r.val = r'.val) (hn : n.val = n'.val) :
    ∑ k : Fin K, x (ix3 b r k) * w (ix2 k n) = ∑ k : Fin K, x (ix3 b' r' k) * w (ix2 k n') := by
  rw [Fin.ext hb, Fin.ext hr, Fin.ext hn]

/-- Device `c`'s partial of a batch, at a row and a column. -/
theorem partialOf_apply (x : FVec Ideal S2x128x512 .f32) (wq : FVec Ideal S512x512 .f32) (wk wv : FVec Ideal S512x128 .f32)
    (wo : FVec Ideal S512x512 .f32) (b : Fin 2) (r : Fin 128) (n : Fin 512) :
    partialOf (F := Ideal) x wq wk wv wo b (ix2 r n) = ∑ e : Fin 512,
      att (fun d => ∑ k : Fin 512, x (ix3 b r k) * wq (ix2 k ⟨64 * (e.val / 64) + d.val, by omega⟩))
        (fun j d => ∑ k : Fin 512, x (ix3 b j k) * wk (ix2 k ⟨64 * (e.val / 256) + d.val, by omega⟩))
        (fun j d => ∑ k : Fin 512, x (ix3 b j k) * wv (ix2 k ⟨64 * (e.val / 256) + d.val, by omega⟩))
        ⟨e.val % 64, by omega⟩ * wo (ix2 e n) := by
  pointwise [partialOf]
  refine Finset.sum_congr rfl fun e _ => congrArg (· * wo (ix2 e n)) ?_
  obtain ⟨g, j, d, rfl⟩ : ∃ (g : Fin 2) (j : Fin 4) (d : Fin 64), e = ⟨256 * g.val + 64 * j.val + d.val, by omega⟩ :=
    ⟨⟨e.val / 256, by omega⟩, ⟨e.val / 64 % 4, by omega⟩, ⟨e.val % 64, by omega⟩, Fin.ext (by dsimp only; omega)⟩
  rw [sideBy_apply]
  have hg : (if g.val = 0 then attn (k0_pay3 (F := Ideal) x wq) (k0_pay4 x wk) (k0_pay5 x wv) b 0
      else attn (k0_pay3 x wq) (k0_pay4 x wk) (k0_pay5 x wv) b 1) = attn (k0_pay3 x wq) (k0_pay4 x wk) (k0_pay5 x wv) b g := by
    fin_cases g <;> rfl
  rw [hg, attn_apply]
  simp only [pay3_apply, pay4_apply, pay5_apply]
  congr 1
  · exact funext fun d' => proj_congr x wq (by dsimp only; omega) (by dsimp only; omega) (by dsimp only; omega)
  · exact funext fun t => funext fun d' => proj_congr x wk (by dsimp only; omega) (by dsimp only; omega) (by dsimp only; omega)
  · exact funext fun t => funext fun d' => proj_congr x wv (by dsimp only; omega) (by dsimp only; omega) (by dsimp only; omega)
  · exact Fin.ext (by dsimp only; omega)

end Cert.KernelIdeal.Fly

end
-- ==== Proof.Fold.lean ====
module

public import proofs.«01_k».proof.Proof.Body
public import proofs.«01_k».proof.Proof.KerVal

/-!
# The butterfly's sum

Over the extended reals every rounding is the identity, so a round adds the partner's chunk to one's own. After
the three rounds a chunk is the sum of the eight devices' chunks, because the three masks of a chunk, in whichever
order it takes them, lead from a device to each of the eight exactly once.
-/

@[expose] public section

set_option maxRecDepth 16384

noncomputable section

namespace Cert.KernelIdeal.Fly

open Cert.KernelIdeal Cert.KernelIdeal.Gen
open Idealize.ShloMosaic Idealize.ShloMosaic.TcCoe

variable (m : (ℓ : Loc nD τ sig) → Buf (Elt Ideal) ℓ)

/-- A round adds the chunk received. -/
theorem addR_apply (a a' : FVec Ideal S16x512 .f32) (r : Fin 16) (n : Fin 512) :
    (addR a (packS a') (ix2 r n) : EReal) = a (ix2 r n) + a' (ix2 r n) := by
  pointwise [addR, packS]

/-- The stored chunk is the chunk. -/
theorem packO_apply (a : FVec Ideal S16x512 .f32) (r : Fin 16) (n : Fin 512) :
    (packO a (ix3 0 r n) : EReal) = a (ix2 r n) := by
  pointwise [packO]

/-- The devices whose chunks a device holds after three rounds, the masks taken from mask `s` on. -/
def origins (c : Dev nD) (i j k : Fin 3) : List (Dev nD) :=
  [c, pal c i, pal c j, pal (pal c j) i, pal c k, pal (pal c k) i, pal (pal c k) j, pal (pal (pal c k) j) i]

/-- They are the eight devices, each once. -/
theorem origins_perm : ∀ (c : Dev nD) (s : Fin 3), (origins c s (s + 1) (s + 2)).Perm (List.finRange 8) := by
  decide +kernel

/-- Three rounds at an element: the sum over the devices. -/
theorem chunkAt_three (c : Dev nD) (k : Fin 16) (r : Fin 16) (n : Fin 512) :
    (chunkAt m 3 c k (ix2 r n) : EReal) = ∑ d : Dev nD, chunkAt m 0 d k (ix2 r n) := by
  have h0 : maskAt 0 k = ⟨k.val % 3, by omega⟩ := Fin.ext (by dsimp only; omega)
  have h1 : maskAt 1 k = (⟨k.val % 3, by omega⟩ : Fin 3) + 1 := Fin.ext (by rw [Fin.val_add]; dsimp only; omega)
  have h2 : maskAt 2 k = (⟨k.val % 3, by omega⟩ : Fin 3) + 2 := Fin.ext (by rw [Fin.val_add]; dsimp only; omega)
  have hs := ((origins_perm c ⟨k.val % 3, by omega⟩).map fun d => (chunkAt m 0 d k (ix2 r n) : EReal)).sum_eq
  refine Eq.trans ?_ (hs.trans ?_)
  · rw [← h1, ← h2, ← h0]
    simp only [chunkAt.eq_2, addR_apply, origins, List.map_cons, List.map_nil, List.sum_cons, List.sum_nil, add_zero]
    ac_rfl
  · rw [← List.ofFn_eq_map, List.sum_ofFn]

/-- A chunk before any round: rows of the device's partial. -/
theorem chunkAt_zero (d : Dev nD) (k r : Fin 16) (n : Fin 512) :
    (chunkAt m 0 d k (ix2 r n) : EReal)
      = part m d ⟨k.val / 8, by omega⟩ (ix2 ⟨16 * (k.val % 8) + r.val, by omega⟩ n) := by
  rw [chunkAt.eq_1]
  unfold chunks
  obtain h | h : k.val / 8 = 0 ∨ k.val / 8 = 1 := by omega
  · rw [if_pos (by omega)]
    simp only [h]
    pointwise [rowsOf]
  · rw [if_neg (by omega)]
    simp only [h]
    pointwise [rowsOf]

/-- The kernel's result at an element: the eight devices' partials summed. -/
theorem outC_apply (c : Dev nD) (b : Fin 2) (i : Fin 128) (n : Fin 512) :
    (show EReal from outC m c (ix3 b i n)) = ∑ d : Dev nD, part m d b (ix2 i n) := by
  have e : (outC m c (ix3 b i n) : EReal)
      = (chunkAt m 3 c ⟨8 * b.val + i.val / 16, by omega⟩ (ix2 ⟨i.val % 16, by omega⟩ n) : EReal) :=
    packO_apply _ _ _
  refine e.trans ((chunkAt_three m c _ _ n).trans ?_)
  refine Finset.sum_congr rfl fun d _ => (chunkAt_zero m d _ _ _).trans ?_
  have hb : (⟨(8 * b.val + i.val / 16) / 8, by omega⟩ : Fin 2) = b := Fin.ext (by dsimp only; omega)
  exact (congrArg (fun b' => (part m d b' (ix2 _ n) : EReal)) hb).trans
    (read2_congr (part m d b) (by dsimp only; omega) rfl)

end Cert.KernelIdeal.Fly

end
-- ==== Proof.RefStages.lean ====
module

public import proofs.«01_k».proof.Proof.Gen.ReferenceIdeal.Run
public import Idealize.ShloMosaic.Lib.Pointwise

/-!
# The reference by stages

The reference's composed term, cut into the steps of its text: projections by head, scores, running maximum,
weights, weighted sums, quotient, and the product with the output weights.
-/

@[expose] public section

set_option maxRecDepth 16384

noncomputable section

namespace Cert.ReferenceIdeal.Value

open Cert.ReferenceIdeal Cert.ReferenceIdeal.Gen
open Idealize.ShloMosaic Idealize.ShloMosaic.TcCoe

/-- The queries by head. -/
def qAll (x : FVec Ideal S2x128x512 .f32) (w : FVec Ideal S512x4096 .f32) : FVec Ideal S2x128x64x64 .f32 :=
  shapeCast S2x128x64x64 (Host.dotGeneral dot_S2x128x512_S512x4096_S2x128x4096_2_0_01_1_n_n none x w)
    shapeCasts_S2x128x4096_S2x128x64x64

/-- The keys, or the values, by head, each repeated for its four query heads. -/
def kvAll (x : FVec Ideal S2x128x512 .f32) (w : FVec Ideal S512x1024 .f32) : FVec Ideal S2x128x64x64 .f32 :=
  shapeCast S2x128x64x64 (broadcastInDim S2x128x16x4x64 ![0, 1, 2, 4] bcast_S2x128x16x64_S2x128x16x4x64_0_1_2_4
    (shapeCast S2x128x16x64 (Host.dotGeneral dot_S2x128x512_S512x1024_S2x128x1024_2_0_01_1_n_n none x w)
      shapeCasts_S2x128x1024_S2x128x16x64)) shapeCasts_S2x128x16x4x64_S2x128x64x64

/-- The scaled scores. -/
def sAll (q k : FVec Ideal S2x128x64x64 .f32) : FVec Ideal S2x64x128x128 .f32 :=
  mulf (Host.dotGeneral dot_S2x128x64x64_S2x128x64x64_S2x64x128x128_3_3_1_1_02_02 none q k)
    (broadcastInDim S2x64x128x128 ![] bcast_S_S2x64x128x128 (constant S_ .f32 0x3E000000#32))

/-- The running maximum after the one block of keys. -/
def mAll (s : FVec Ideal S2x64x128x128 .f32) : FVec Ideal S2x64x128x1 .f32 :=
  maximumf (broadcastInDim S2x64x128x1 ![] bcast_S_S2x64x128x1 (constant S_ .f32 0xFF800000#32))
    (broadcastInDim S2x64x128x1 ![0, 1, 2] bcast_S2x64x128_S2x64x128x1_0_1_2
      (Host.reduce FloatOps.maximumf s (constant S_ .f32 0xFF800000#32) reducesTo_S2x64x128x128_S2x64x128_d3 h_S_))

/-- The weights. -/
def pAll (s : FVec Ideal S2x64x128x128 .f32) : FVec Ideal S2x64x128x128 .f32 :=
  Host.exp (subf s (broadcastInDim S2x64x128x128 ![0, 1, 2, 3] bcast_S2x64x128x1_S2x64x128x128_0_1_2_3 (mAll s)))

/-- The rescaling of the old sums. -/
def aAll (s : FVec Ideal S2x64x128x128 .f32) : FVec Ideal S2x64x128x1 .f32 :=
  Host.exp (subf (broadcastInDim S2x64x128x1 ![] bcast_S_S2x64x128x1 (constant S_ .f32 0xFF800000#32)) (mAll s))

/-- The weights' sum. -/
def lAll (s : FVec Ideal S2x64x128x128 .f32) : FVec Ideal S2x64x128x1 .f32 :=
  addf (mulf (broadcastInDim S2x64x128x1 ![] bcast_S_S2x64x128x1 (constant S_ .f32 0x00000000#32)) (aAll s))
    (broadcastInDim S2x64x128x1 ![0, 1, 2] bcast_S2x64x128_S2x64x128x1_0_1_2
      (Host.reduceAdd (pAll s) (constant S_ .f32 0x00000000#32) reducesTo_S2x64x128x128_S2x64x128_d3 h_S_))

/-- The weighted values. -/
def oAll (s : FVec Ideal S2x64x128x128 .f32) (v : FVec Ideal S2x128x64x64 .f32) : FVec Ideal S2x128x64x64 .f32 :=
  addf (mulf (broadcastInDim S2x128x64x64 ![] bcast_S_S2x128x64x64 (constant S_ .f32 0x00000000#32))
      (broadcastInDim S2x128x64x64 ![0, 1, 2, 3] bcast_S2x128x64x1_S2x128x64x64_0_1_2_3
        (transpose S2x128x64x1 [0, 2, 1, 3] (aAll s) transposes_S2x64x128x1_S2x128x64x1_0_2_1_3)))
    (transpose S2x128x64x64 [0, 3, 1, 2]
      (Host.dotGeneral dot_S2x128x64x64_S2x64x128x128_S2x64x64x128_1_3_3_2_02_01 none v (pAll s))
      transposes_S2x64x64x128_S2x128x64x64_0_3_1_2)

/-- The attention of every head. -/
def attAll (s : FVec Ideal S2x64x128x128 .f32) (v : FVec Ideal S2x128x64x64 .f32) : FVec Ideal S2x128x64x64 .f32 :=
  Host.divf (oAll s v) (broadcastInDim S2x128x64x64 ![0, 1, 2, 3] bcast_S2x128x64x1_S2x128x64x64_0_1_2_3
    (transpose S2x128x64x1 [0, 2, 1, 3] (lAll s) transposes_S2x64x128x1_S2x128x64x1_0_2_1_3))

/-- The reference's result, of its five arguments. -/
def refOf (x : FVec Ideal S2x128x512 .f32) (wq : FVec Ideal S512x4096 .f32) (wk wv : FVec Ideal S512x1024 .f32)
    (wo : FVec Ideal S4096x512 .f32) : FVec Ideal S2x128x512 .bf16 :=
  truncf .bf16 (Host.dotGeneral dot_S2x128x4096_S4096x512_S2x128x512_2_0_01_1_n_n none
    (shapeCast S2x128x4096 (attAll (sAll (qAll x wq) (kvAll x wk)) (kvAll x wv)) shapeCasts_S2x128x64x64_S2x128x4096) wo)
    bitsLt_bf16_f32

/-- The printed term is the stages put together. -/
theorem res_eq (m : (ℓ : Loc nD τ sig) → Buf (Elt Ideal) ℓ) (c : Dev nD) : res_main_v39 m c
    = refOf (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := rfl

end Cert.ReferenceIdeal.Value

end
-- ==== Proof.RefVal.lean ====
module

public import proofs.«01_k».proof.Proof.RefStages
public import proofs.«01_k».proof.Proof.KerVal

/-!
# The reference, at an index

The reference's composed term read over the extended reals at one element: the same attention row, summed against
all the rows of the output weights. Its running maximum starts at -∞ and its running sums at zero, and there is one
block of keys, so the rescaling of the old sums multiplies zero.
-/

@[expose] public section

set_option maxRecDepth 16384

noncomputable section

namespace Cert.ReferenceIdeal.Value

open Cert.ReferenceIdeal Cert.ReferenceIdeal.Gen
open Idealize.ShloMosaic Idealize.ShloMosaic.TcCoe
open Cert.KernelIdeal.Fly (score top weight att read2_congr proj_congr)

/-! ## The stages at an index -/

/-- A query: the projection at the head's column. -/
theorem qAll_apply (x : FVec Ideal S2x128x512 .f32) (w : FVec Ideal S512x4096 .f32) (b : Fin 2) (i : Fin 128) (h d : Fin 64) :
    qAll x w (ix4 b i h d) = ∑ k : Fin 512, x (ix3 b i k) * w (ix2 k ⟨64 * h.val + d.val, by omega⟩) := by
  pointwise [qAll]
  exact proj_congr x w rfl rfl (by dsimp only; omega)

/-- A key or a value: the projection at the column of the head's group. -/
theorem kvAll_apply (x : FVec Ideal S2x128x512 .f32) (w : FVec Ideal S512x1024 .f32) (b : Fin 2) (i : Fin 128) (h d : Fin 64) :
    kvAll x w (ix4 b i h d) = ∑ k : Fin 512, x (ix3 b i k) * w (ix2 k ⟨64 * (h.val / 4) + d.val, by omega⟩) := by
  pointwise [kvAll]
  exact proj_congr x w rfl rfl (by dsimp only; omega)

/-- A score. -/
theorem sAll_apply (q k : FVec Ideal S2x128x64x64 .f32) (b : Fin 2) (h : Fin 64) (i j : Fin 128) :
    sAll q k (ix4 b h i j) = score (fun d => q (ix4 b i h d)) (fun j d => k (ix4 b j h d)) j := by
  pointwise [sAll, score]

/-- The maximum: starting it at -∞ changes nothing. -/
theorem mAll_apply (s : FVec Ideal S2x64x128x128 .f32) (b : Fin 2) (h : Fin 64) (i : Fin 128) :
    mAll s (ix4 b h i 0) = Finset.univ.fold max (Ideal.ofBits .f32 0xFF800000#32) fun j : Fin 128 => s (ix4 b h i j) := by
  pointwise [mAll]
  exact max_eq_right (Finset.le_fold_max _ |>.mpr (.inl le_rfl))

/-- A weight. -/
theorem pAll_apply (s : FVec Ideal S2x64x128x128 .f32) (b : Fin 2) (h : Fin 64) (i j : Fin 128) :
    pAll s (ix4 b h i j) = Ideal.exp (s (ix4 b h i j) - mAll s (ix4 b h i 0)) := by
  pointwise [pAll]

/-- The weights' sum: the rescaled old sum is zero. -/
theorem lAll_apply (s : FVec Ideal S2x64x128x128 .f32) (b : Fin 2) (h : Fin 64) (i : Fin 128) :
    lAll s (ix4 b h i 0) = ∑ j : Fin 128, pAll s (ix4 b h i j) := by
  pointwise [lAll]
  rw [zero_mul, zero_add]

/-- The weighted values: the rescaled old ones are zero. -/
theorem oAll_apply (s : FVec Ideal S2x64x128x128 .f32) (v : FVec Ideal S2x128x64x64 .f32) (b : Fin 2) (i : Fin 128) (h d : Fin 64) :
    oAll s v (ix4 b i h d) = ∑ j : Fin 128, pAll s (ix4 b h i j) * v (ix4 b j h d) := by
  pointwise [oAll]
  rw [zero_mul, zero_add]
  exact Finset.sum_congr rfl fun j _ => mul_comm _ _

/-- The quotient of the two. -/
theorem attAll_apply (s : FVec Ideal S2x64x128x128 .f32) (v : FVec Ideal S2x128x64x64 .f32) (b : Fin 2) (i : Fin 128) (h d : Fin 64) :
    attAll s v (ix4 b i h d) = Ideal.div (oAll s v (ix4 b i h d)) (lAll s (ix4 b h i 0)) := by
  pointwise [attAll]

/-- The attention of one head, at a row and a column. -/
theorem attHead_apply (q k v : FVec Ideal S2x128x64x64 .f32) (b : Fin 2) (i : Fin 128) (h d : Fin 64) :
    attAll (sAll q k) v (ix4 b i h d)
      = att (fun d => q (ix4 b i h d)) (fun j d => k (ix4 b j h d)) (fun j d => v (ix4 b j h d)) d := by
  rw [attAll_apply, oAll_apply, lAll_apply]
  simp only [pAll_apply, mAll_apply, sAll_apply]
  rfl

/-- The reference's result at an element. -/
theorem refOf_apply (x : FVec Ideal S2x128x512 .f32) (wq : FVec Ideal S512x4096 .f32) (wk wv : FVec Ideal S512x1024 .f32)
    (wo : FVec Ideal S4096x512 .f32) (b : Fin 2) (i : Fin 128) (n : Fin 512) :
    (refOf x wq wk wv wo (ix3 b i n) : EReal) = ∑ e : Fin 4096,
      att (fun d => ∑ k : Fin 512, x (ix3 b i k) * wq (ix2 k ⟨64 * (e.val / 64) + d.val, by omega⟩))
        (fun j d => ∑ k : Fin 512, x (ix3 b j k) * wk (ix2 k ⟨64 * (e.val / 256) + d.val, by omega⟩))
        (fun j d => ∑ k : Fin 512, x (ix3 b j k) * wv (ix2 k ⟨64 * (e.val / 256) + d.val, by omega⟩))
        ⟨e.val % 64, by omega⟩ * wo (ix2 e n) := by
  pointwise [refOf]
  refine Finset.sum_congr rfl fun e _ => congrArg (· * wo (ix2 e n)) ?_
  rw [attHead_apply]
  simp only [qAll_apply, kvAll_apply]
  congr 1
  · exact funext fun t => funext fun d' => proj_congr x wk rfl rfl (by dsimp only; omega)
  · exact funext fun t => funext fun d' => proj_congr x wv rfl rfl (by dsimp only; omega)

end Cert.ReferenceIdeal.Value

end
-- ==== Proof.Value.lean ====
module

public import proofs.«01_k».proof.Proof.Fold
public import proofs.«01_k».proof.Proof.RefVal
public import Idealize.ShloMosaic.Lib.Layout
public import Idealize.ShloMosaic.Lib.Pipeline.ValueKit.Acc

/-!
# The kernel's result is the reference's

Row `e` of device `d`'s block of the output weights is row `512 d + e` of the whole array; its head `e / 64` is head
`(512 d + e) / 64` and its key head `e / 256` is key head `(512 d + e) / 256` of the whole. So the sum over the devices
of their partials is the reference's sum over all the rows.
-/

@[expose] public section

set_option maxRecDepth 16384

noncomputable section

namespace Cert.KernelIdeal.Fly

open Cert.KernelIdeal Cert.KernelIdeal.Gen
open Idealize.ShloMosaic Idealize.ShloMosaic.TcCoe

/-! ## Reads of the arguments -/

/-- The columns that a device loads start at `128 d`. -/
theorem kvOff (d : Dev nD) : k0_off1 d = ![0, 128 * d.val] := by
  revert d; decide +kernel

variable (m : (ℓ : Loc nD τ sig) → Buf (Elt Ideal) ℓ)

/-- The loaded tokens are the argument. -/
theorem xv_eq (c : Dev nD) : xv m c = m ((c : Thread nD τ).loc main_arg0) := rfl

/-- The loaded query weights are the argument. -/
theorem wqv_eq (c : Dev nD) : wqv m c = m ((c : Thread nD τ).loc main_arg1) := rfl

/-- The loaded output weights are the argument. -/
theorem wov_eq (c : Dev nD) : wov m c = m ((c : Thread nD τ).loc main_arg4) := rfl

/-- Column `n` of a device's part of the columns is column `128 d + n`. -/
theorem kvCols_emb (d : Dev nD) (k : Fin 512) (n : Fin 128) :
    (Rect.unit (s := S512x1024) (k0_off1 d) S512x128.size (k0_off1_inb d)).emb (ix2 k n)
      = ix2 k ⟨128 * d.val + n.val, by have : d.val < 8 := d.isLt; omega⟩ := by
  refine funext fun a => Fin.ext ?_
  have h := congrFun (kvOff d) a
  change k0_off1 d a + 1 * (ix2 k n a).val = _
  rw [h]
  fin_cases a
  · exact (Nat.zero_add _).trans (Nat.one_mul _)
  · exact congrArg (128 * d.val + ·) (Nat.one_mul _)

/-- The loaded key weights, at an index. -/
theorem wkv_apply (c : Dev nD) (k : Fin 512) (n : Fin 128) :
    wkv m c (ix2 k n) = (m ((c : Thread nD τ).loc main_arg2) : FVec Ideal S512x1024 .f32)
      (ix2 k ⟨128 * c.val + n.val, by have : c.val < 8 := c.isLt; omega⟩) :=
  congrArg (m ((c : Thread nD τ).loc main_arg2)) (kvCols_emb c k n)

/-- The loaded value weights, at an index. -/
theorem wvv_apply (c : Dev nD) (k : Fin 512) (n : Fin 128) :
    wvv m c (ix2 k n) = (m ((c : Thread nD τ).loc main_arg3) : FVec Ideal S512x1024 .f32)
      (ix2 k ⟨128 * c.val + n.val, by have : c.val < 8 := c.isLt; omega⟩) :=
  congrArg (m ((c : Thread nD τ).loc main_arg3)) (kvCols_emb c k n)

/-- Column block `d` of the query weights. -/
theorem block1_apply (d : Fin 8) (v : (⟨2, ![512, 4096]⟩ : Shape).Idx → EReal) (k n : Fin 512) :
    Layout.block ⟨2, ![512, 512]⟩ ⟨2, ![512, 4096]⟩ 1 8 d v (by decide) (ix2 k n) = v (ix2 k ⟨d.val * 512 + n.val, by omega⟩) := by
  rw [Layout.block_apply]
  refine congrArg v (funext fun b => Fin.ext ?_)
  rw [Layout.Tiles.idx_val]
  fin_cases b <;> rfl

/-- Row block `d` of the output weights. -/
theorem block0_apply (d : Fin 8) (v : (⟨2, ![4096, 512]⟩ : Shape).Idx → EReal) (k n : Fin 512) :
    Layout.block ⟨2, ![512, 512]⟩ ⟨2, ![4096, 512]⟩ 0 8 d v (by decide) (ix2 k n) = v (ix2 ⟨d.val * 512 + k.val, by omega⟩ n) := by
  rw [Layout.block_apply]
  refine congrArg v (funext fun b => Fin.ext ?_)
  rw [Layout.Tiles.idx_val]
  fin_cases b <;> rfl

/-! ## The equation -/

open Cert.ReferenceIdeal.Value (refOf refOf_apply)

/-- A device's partial is the reference's sum over its block of the rows. -/
theorem part_apply (d : Dev nD) (b : Fin 2) (i : Fin 128) (n : Fin 512) (wq : (⟨2, ![512, 4096]⟩ : Shape).Idx → EReal)
    (wo : (⟨2, ![4096, 512]⟩ : Shape).Idx → EReal) (x : FVec Ideal S2x128x512 .f32) (wk wv : FVec Ideal S512x1024 .f32)
    (h0 : m ((d : Thread nD τ).loc main_arg0) = x)
    (h1 : m ((d : Thread nD τ).loc main_arg1) = Layout.block ⟨2, ![512, 512]⟩ ⟨2, ![512, 4096]⟩ 1 8 d wq)
    (h2 : m ((d : Thread nD τ).loc main_arg2) = wk) (h3 : m ((d : Thread nD τ).loc main_arg3) = wv)
    (h4 : m ((d : Thread nD τ).loc main_arg4) = Layout.block ⟨2, ![512, 512]⟩ ⟨2, ![4096, 512]⟩ 0 8 d wo) :
    part m d b (ix2 i n) = ∑ e : Fin 512,
      (fun e : Fin 4096 => att (fun d => ∑ k : Fin 512, x (ix3 b i k) * wq (ix2 k ⟨64 * (e.val / 64) + d.val, by omega⟩))
        (fun j d => ∑ k : Fin 512, x (ix3 b j k) * wk (ix2 k ⟨64 * (e.val / 256) + d.val, by omega⟩))
        (fun j d => ∑ k : Fin 512, x (ix3 b j k) * wv (ix2 k ⟨64 * (e.val / 256) + d.val, by omega⟩))
        ⟨e.val % 64, by omega⟩ * wo (ix2 e n)) ⟨d.val * 512 + e.val, by have : d.val < 8 := d.isLt; omega⟩ := by
  have hd : d.val < 8 := d.isLt
  refine (partialOf_apply _ _ _ _ _ b i n).trans (Finset.sum_congr rfl fun e _ => ?_)
  simp only [xv_eq, wqv_eq, wov_eq, wkv_apply, wvv_apply, h0, h1, h2, h3, h4, block1_apply, block0_apply]
  refine congrArg₂ (· * ·) ?_ rfl
  have hf : (⟨e.val % 64, by omega⟩ : Fin 64) = ⟨(d.val * 512 + e.val) % 64, by omega⟩ := Fin.ext (by dsimp only; omega)
  rw [hf]
  congr 1
  · exact funext fun t => proj_congr x wq rfl rfl (by dsimp only; omega)
  · exact funext fun j => funext fun t => proj_congr x wk rfl rfl (by dsimp only; omega)
  · exact funext fun j => funext fun t => proj_congr x wv rfl rfl (by dsimp only; omega)

/-- Every device's result is the reference's. -/
theorem outC_eq (c : Dev nD) (wq : (⟨2, ![512, 4096]⟩ : Shape).Idx → EReal)
    (wo : (⟨2, ![4096, 512]⟩ : Shape).Idx → EReal) (x : FVec Ideal S2x128x512 .f32) (wk wv : FVec Ideal S512x1024 .f32)
    (h : ∀ d : Dev nD, m ((d : Thread nD τ).loc main_arg0) = x
      ∧ m ((d : Thread nD τ).loc main_arg1) = Layout.block ⟨2, ![512, 512]⟩ ⟨2, ![512, 4096]⟩ 1 8 d wq
      ∧ m ((d : Thread nD τ).loc main_arg2) = wk ∧ m ((d : Thread nD τ).loc main_arg3) = wv
      ∧ m ((d : Thread nD τ).loc main_arg4) = Layout.block ⟨2, ![512, 512]⟩ ⟨2, ![4096, 512]⟩ 0 8 d wo) :
    outC m c = refOf x wq wk wv wo := by
  funext j
  rw [eq_ix3 j]
  refine (outC_apply m c (j 0) (j 1) (j 2)).trans (Eq.trans ?_ (refOf_apply x wq wk wv wo (j 0) (j 1) (j 2)).symm)
  refine Eq.trans (Finset.sum_congr rfl fun d _ => ?_) (Fin.sum_mul_add_fin 8 512 _)
  obtain ⟨h0, h1, h2, h3, h4⟩ := h d
  exact part_apply m d (j 0) (j 1) (j 2) wq wo x wk wv h0 h1 h2 h3 h4

end Cert.KernelIdeal.Fly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Fly (run_main outC outC_eq)

/-- Over any float values the kernel terminates, its arguments unchanged and its semaphores at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      fun r => (∀ c : Dev Cert.KernelIdeal.nD,
        r.2.mem ((c : Thread Cert.KernelIdeal.nD Cert.KernelIdeal.τ).loc Cert.KernelIdeal.main_arg0) = m (c.tc.loc Cert.KernelIdeal.main_arg0)
        ∧ r.2.mem ((c : Thread Cert.KernelIdeal.nD Cert.KernelIdeal.τ).loc Cert.KernelIdeal.main_arg1) = m (c.tc.loc Cert.KernelIdeal.main_arg1)
        ∧ r.2.mem ((c : Thread Cert.KernelIdeal.nD Cert.KernelIdeal.τ).loc Cert.KernelIdeal.main_arg2) = m (c.tc.loc Cert.KernelIdeal.main_arg2)
        ∧ r.2.mem ((c : Thread Cert.KernelIdeal.nD Cert.KernelIdeal.τ).loc Cert.KernelIdeal.main_arg3) = m (c.tc.loc Cert.KernelIdeal.main_arg3)
        ∧ r.2.mem ((c : Thread Cert.KernelIdeal.nD Cert.KernelIdeal.τ).loc Cert.KernelIdeal.main_arg4) = m (c.tc.loc Cert.KernelIdeal.main_arg4))
        ∧ r.2.sem = fun _ => 0 :=
  θ_run_mono (run_main m g) fun _ h => ⟨fun c => (h.1 c).2, h.2⟩

/-- The two printed kernels have one text, and so one body table. -/
theorem defs_eq {F : FTy → Type} [FloatOps F] : @Cert.Kernel.defs F _ Cert.Kernel.Gen.facts = @Cert.KernelIdeal.defs F _ Cert.KernelIdeal.Gen.facts := by
  sl_kernel_rfl

/-- The kernel's frame at the float words. -/
theorem frame_kernel : Cert.quiescent_Kernel (hKernel := Cert.Kernel.Gen.facts) := by
  intro m g _
  rw [defs_eq]
  exact frame_any (F := Bits) m g

/-- The kernel's frame over the extended reals. -/
theorem frame_kernelIdeal : Cert.quiescent_KernelIdeal (hKernelIdeal := Cert.KernelIdeal.Gen.facts) := fun m g _ =>
  frame_any (F := Ideal) m g

/-- The reference terminates, its arguments unchanged; it has no semaphores. -/
theorem frame_reference : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

/-- Over the extended reals every device ends with the whole of the reference's result. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.ReferenceIdeal.Value.res_main_v39 m' 0,
    θ_run_mono (run_main (F := Ideal) m g) fun _ h c =>
      ⟨(h.1 c).1.trans ((outC_eq m c _ _ _ _ _ hagree).trans (Cert.ReferenceIdeal.Value.res_eq m' 0).symm), (h.1 c).2⟩,
    θ_run_mono (Cert.ReferenceIdeal.Value.run m' g') fun _ h => h 0⟩

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
